-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S2x8192x12288 : Shape := ⟨3, ![2, 8192, 12288]⟩
abbrev S12288x2560 : Shape := ⟨2, ![12288, 2560]⟩
abbrev S12288 : Shape := ⟨1, ![12288]⟩
abbrev S_ : Shape := ⟨0, ![]⟩

class Facts : Prop where
  bcast_S_S12288 : S_.BroadcastsInDim S12288 (![] : Fin 0 → Fin S12288.rank)

variable [Facts]

def fn {F : FTy → Type} [FloatOps F] (main_arg0 : FVec F S2x8192x12288 .bf16) (main_arg1 : FVec F S12288x2560 .bf16) (main_arg2 : FVec F S12288 .f32) : IVec S12288 1 :=
  let main_cst : FVec F S_ .f32 := constant S_ .f32 0x7F800000#32
  let main_v0 : FVec F S12288 .f32 := broadcastInDim S12288 ![] bcast_S_S12288 main_cst
  let main_v1 : IVec S12288 1 := cmpf .olt main_arg2 main_v0
  main_v1
-- ==== Kernel.lean ====
abbrev S2x8192x12288 : Shape := ⟨3, ![2, 8192, 12288]⟩
abbrev S12288x2560 : Shape := ⟨2, ![12288, 2560]⟩
abbrev S12288 : Shape := ⟨1, ![12288]⟩
abbrev S16384x12288 : Shape := ⟨2, ![16384, 12288]⟩
abbrev S1x12288 : Shape := ⟨2, ![1, 12288]⟩
abbrev S256x12288 : Shape := ⟨2, ![256, 12288]⟩
abbrev S16x12288 : Shape := ⟨2, ![16, 12288]⟩
abbrev S12288x1 : Shape := ⟨2, ![12288, 1]⟩
abbrev S1x2560 : Shape := ⟨2, ![1, 2560]⟩
abbrev S12288x128 : Shape := ⟨2, ![12288, 128]⟩
abbrev S1x128 : Shape := ⟨2, ![1, 128]⟩
abbrev S128 : Shape := ⟨1, ![128]⟩
abbrev S16384x1 : Shape := ⟨2, ![16384, 1]⟩
abbrev S128x12288 : Shape := ⟨2, ![128, 12288]⟩
abbrev S128x1 : Shape := ⟨2, ![128, 1]⟩
abbrev S16384x2560 : Shape := ⟨2, ![16384, 2560]⟩
abbrev S512x12288 : Shape := ⟨2, ![512, 12288]⟩
abbrev S12288x512 : Shape := ⟨2, ![12288, 512]⟩
abbrev S512x1 : Shape := ⟨2, ![512, 1]⟩
abbrev S1x512 : Shape := ⟨2, ![1, 512]⟩
abbrev S512x512 : Shape := ⟨2, ![512, 512]⟩
abbrev S2x8192x2560 : Shape := ⟨3, ![2, 8192, 2560]⟩
abbrev S2560 : Shape := ⟨1, ![2560]⟩
abbrev S2x8192 : Shape := ⟨2, ![2, 8192]⟩

abbrev nBuf : Space → Nat
  | .hbm => 18
  | .vmem => 30
  | .smem => 0
  | _ => 0

abbrev bufTy : (tb : Table) → Fin (tcTables nBuf tb) → BufTy
  | .hbm, ⟨0, _⟩ => ⟨S2x8192x12288, .bf16⟩
  | .hbm, ⟨1, _⟩ => ⟨S12288x2560, .bf16⟩
  | .hbm, ⟨2, _⟩ => ⟨S12288, .f32⟩
  | .hbm, ⟨3, _⟩ => ⟨S16384x12288, .bf16⟩
  | .hbm, ⟨4, _⟩ => ⟨S1x12288, .f32⟩
  | .hbm, ⟨5, _⟩ => ⟨S1x12288, .f32⟩
  | .hbm, ⟨6, _⟩ => ⟨S1x12288, .f32⟩
  | .hbm, ⟨7, _⟩ => ⟨S12288x1, .f32⟩
  | .hbm, ⟨8, _⟩ => ⟨S12288x2560, .i8⟩
  | .hbm, ⟨9, _⟩ => ⟨S1x2560, .f32⟩
  | .hbm, ⟨10, _⟩ => ⟨S16384x12288, .i8⟩
  | .hbm, ⟨11, _⟩ => ⟨S16384x1, .f32⟩
  | .hbm, ⟨12, _⟩ => ⟨S16384x2560, .bf16⟩
  | .hbm, ⟨13, _⟩ => ⟨S2x8192x2560, .bf16⟩
  | .hbm, ⟨14, _⟩ => ⟨S12288, .f32⟩
  | .hbm, ⟨15, _⟩ => ⟨S2560, .f32⟩
  | .hbm, ⟨16, _⟩ => ⟨S2x8192x12288, .i8⟩
  | .hbm, ⟨17, _⟩ => ⟨S2x8192, .f32⟩
  | .local _ .vmem, ⟨0, _⟩ => ⟨S256x12288, .bf16⟩
  | .local _ .vmem, ⟨1, _⟩ => ⟨S256x12288, .bf16⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S16x12288, .bf16⟩
  | .local _ .vmem, ⟨6, _⟩ => ⟨S12288x128, .bf16⟩
  | .local _ .vmem, ⟨7, _⟩ => ⟨S12288x128, .bf16⟩
  | .local _ .vmem, ⟨8, _⟩ => ⟨S12288x1, .f32⟩
  | .local _ .vmem, ⟨9, _⟩ => ⟨S12288x128, .i8⟩
  | .local _ .vmem, ⟨10, _⟩ => ⟨S12288x128, .i8⟩
  | .local _ .vmem, ⟨11, _⟩ => ⟨S1x128, .f32⟩
  | .local _ .vmem, ⟨12, _⟩ => ⟨S1x128, .f32⟩
  | .local _ .vmem, ⟨13, _⟩ => ⟨S128x12288, .bf16⟩
  | .local _ .vmem, ⟨14, _⟩ => ⟨S128x12288, .bf16⟩
  | .local _ .vmem, ⟨15, _⟩ => ⟨S1x12288, .f32⟩
  | .local _ .vmem, ⟨16, _⟩ => ⟨S128x12288, .i8⟩
  | .local _ .vmem, ⟨17, _⟩ => ⟨S128x12288, .i8⟩
  | .local _ .vmem, ⟨18, _⟩ => ⟨S128x1, .f32⟩
  | .local _ .vmem, ⟨19, _⟩ => ⟨S128x1, .f32⟩
  | .local _ .vmem, ⟨20, _⟩ => ⟨S512x12288, .i8⟩
  | .local _ .vmem, ⟨21, _⟩ => ⟨S512x12288, .i8⟩
  | .local _ .vmem, ⟨22, _⟩ => ⟨S12288x512, .i8⟩
  | .local _ .vmem, ⟨23, _⟩ => ⟨S12288x512, .i8⟩
  | .local _ .vmem, ⟨24, _⟩ => ⟨S512x1, .f32⟩
  | .local _ .vmem, ⟨25, _⟩ => ⟨S512x1, .f32⟩
  | .local _ .vmem, ⟨26, _⟩ => ⟨S1x512, .f32⟩
  | .local _ .vmem, ⟨27, _⟩ => ⟨S1x512, .f32⟩
  | .local _ .vmem, ⟨28, _⟩ => ⟨S512x512, .bf16⟩
  | .local _ .vmem, ⟨29, _⟩ => ⟨S512x512, .bf16⟩
  | _, _ => ⟨S2x8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v69 : BitVec 1 := Scalar.cmpi .eq arg0 c63_i32
  let v70 : BitVec 32 := Scalar.extui v69
  let c0_i32_19 : BitVec 32 := 0#32
  let v71 : BitVec 1 := Scalar.cmpi .ne v70 c0_i32_19
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S12288x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12288x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S12288x128 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x12288 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x12288 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x12288 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![32, 5], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x12288 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S12288x512 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== ReferenceIdeal.lean ====
abbrev S2x8192x12288 : Shape := ⟨3, ![2, 8192, 12288]⟩
abbrev S12288x2560 : Shape := ⟨2, ![12288, 2560]⟩
abbrev S12288 : Shape := ⟨1, ![12288]⟩
abbrev S2x8192x2560 : Shape := ⟨3, ![2, 8192, 2560]⟩
abbrev S2560 : Shape := ⟨1, ![2560]⟩
abbrev S2x8192 : Shape := ⟨2, ![2, 8192]⟩
abbrev S12288x1 : Shape := ⟨2, ![12288, 1]⟩
abbrev S1x2560 : Shape := ⟨2, ![1, 2560]⟩
abbrev S1x1x12288 : Shape := ⟨3, ![1, 1, 12288]⟩
abbrev S2x8192x1 : Shape := ⟨3, ![2, 8192, 1]⟩
abbrev S1x1x2560 : Shape := ⟨3, ![1, 1, 2560]⟩

abbrev nBuf : Space → Nat
  | .hbm => 9
  | .vmem => 9
  | .smem => 0
  | _ => 0

abbrev bufTy : (tb : Table) → Fin (tcTables nBuf tb) → BufTy
  | .hbm, ⟨0, _⟩ => ⟨S2x8192x12288, .bf16⟩
  | .hbm, ⟨1, _⟩ => ⟨S12288x2560, .bf16⟩
  | .hbm, ⟨2, _⟩ => ⟨S12288, .f32⟩
  | .hbm, ⟨3, _⟩ => ⟨S2x8192x2560, .bf16⟩
  | .hbm, ⟨4, _⟩ => ⟨S12288, .f32⟩
  | .hbm, ⟨5, _⟩ => ⟨S12288x2560, .i8⟩
  | .hbm, ⟨6, _⟩ => ⟨S2560, .f32⟩
  | .hbm, ⟨7, _⟩ => ⟨S2x8192x12288, .i8⟩
  | .hbm, ⟨8, _⟩ => ⟨S2x8192, .f32⟩
  | .local _ .vmem, ⟨0, _⟩ => ⟨S2x8192x12288, .bf16⟩
  | .local _ .vmem, ⟨1, _⟩ => ⟨S12288x2560, .bf16⟩
  | .local _ .vmem, ⟨2, _⟩ => ⟨S12288, .f32⟩
  | .local _ .vmem, ⟨3, _⟩ => ⟨S2x8192x2560, .bf16⟩
  | .local _ .vmem, ⟨4, _⟩ => ⟨S12288, .f32⟩
  | .local _ .vmem, ⟨5, _⟩ => ⟨S12288x2560, .i8⟩
  | .local _ .vmem, ⟨6, _⟩ => ⟨S2560, .f32⟩
  | .local _ .vmem, ⟨7, _⟩ => ⟨S2x8192x12288, .i8⟩
  | .local _ .vmem, ⟨8, _⟩ => ⟨S2x8192, .f32⟩
  | _, _ => ⟨S2x8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x8192x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2560 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8192x12288 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelRun.Smooth.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_smooth` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_2, k0_cond3, e0]
    word_cmp
   : ∀ t : Fin grid0.N, cond0_2 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel
/-- At the points of case A the printed configuration (`Cfg.idle`) calls output 3 idle: the case stores nothing into it. -/
theorem idleAt0_3_A : ∀ t : Fin cfg0.N, cond0_0 (grid0.coords t) → ¬cond0_1 (grid0.coords t) → ¬cond0_2 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → ¬cond0_2 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → cond0_1 (grid0.coords t) → ¬cond0_2 (grid0.coords t) → cfg0.idle 3 (grid0.coords t) = true := by decide +kernel
/-- At the points of case B the pipeline does not write output 3's block back. -/
theorem noFlush0_3_B : ∀ t : Fin cfg0.N, ¬cond0_0 (grid0.coords t) → cond0_1 (grid0.coords t) → ¬cond0_2 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cond0_2 (grid0.coords t) → cfg0.idle 3 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1x12288 .f32 := (Memref.whole cc0_stg2_0 : Memref sig .tc .vmem S1x12288 .f32).view
/-- One staging buffer of output window 3, through which its contents are stated (`View.read_writes_of_cover`: the
    choice does not matter). -/
abbrev VO0_3 : View sig .tc .vmem S1x12288 .f32 := (Memref.whole cc0_stg3_0 : Memref sig .tc .vmem S1x12288 .f32).view
/-- Each window's current staging memref at point `t`, spelled as the pipeline passes it (`bodyAt0`), and its wholeness. -/
abbrev ms0_0 (t : Fin cfg0.N) : Memref sig .tc .vmem S256x12288 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12288 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x12288 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x12288 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S16x12288 .bf16 := Memref.whole cc0_scratch0
/-- The scratch `arg5` the kernel carries between points, as a view: what it holds is stated through it. -/
abbrev VS0_0 : View sig .tc .vmem S16x12288 .bf16 := scM0_0.view

/-- The scoped buffers that are neither a staging buffer of this call nor its scratch: every other call's, unopened. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch operand as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_split]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (2, 3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) :
    Σ' (L2 : List (View.Piece (Elt F) S1x12288 .f32)), Σ' (L3 : List (View.Piece (Elt F) S1x12288 .f32)), { LS0 : List (View.Piece (Elt F) S16x12288 .bf16) //
      ∀ (xi2 : Vec F S1x12288 .f32) (xi3 : Vec F S1x12288 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_smooth i arg1 harg1 arg2 harg2 arg3 harg3 arg4 harg4 arg5 harg5) K } := by
  refine ⟨[], [], ?_, fun xi2 xi3 E K => ?run⟩
  case run =>
    simp only [cc0_smooth_eq_skeleton]; unfold cc0_smooth_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 62: 62 of 64), WITH the
    proof that on whole staging memrefs — the inputs' at their contents, the outputs it leaves idle (2, 3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) :
    Σ' (L2 : List (View.Piece (Elt F) S1x12288 .f32)), Σ' (L3 : List (View.Piece (Elt F) S1x12288 .f32)), { LS0 : List (View.Piece (Elt F) S16x12288 .bf16) //
      ∀ (xi2 : Vec F S1x12288 .f32) (xi3 : Vec F S1x12288 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_smooth i arg1 harg1 arg2 harg2 arg3 harg3 arg4 harg4 arg5 harg5) K } := by
  refine ⟨[], [], ?_, fun xi2 xi3 E K => ?run⟩
  case run =>
    simp only [cc0_smooth_eq_skeleton]; unfold cc0_smooth_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) :
    Σ' (L2 : List (View.Piece (Elt F) S1x12288 .f32)), Σ' (L3 : List (View.Piece (Elt F) S1x12288 .f32)), { LS0 : List (View.Piece (Elt F) S16x12288 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_smooth i arg1 harg1 arg2 harg2 arg3 harg3 arg4 harg4 arg5 harg5) K } := by
  refine ⟨?_, ?_, ?_, fun E K => ?run⟩
  case run =>
    simp only [cc0_smooth_eq_skeleton]; unfold cc0_smooth_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) : Vec F S1x12288 .f32 :=
  VO0_2.read (Elt F) (VO0_2.writes (Elt F) VO0_2.junk (kernelRun0_A c i arg1 harg1 arg2 harg2 arg3 harg3 arg4 harg4 arg5 harg5 hc0 hc1 hc2 x0 x1).1)

/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) : Vec F S1x12288 .f32 :=
  VO0_3.read (Elt F) (VO0_3.writes (Elt F) VO0_3.junk (kernelRun0_A c i arg1 harg1 arg2 harg2 arg3 harg3 arg4 harg4 arg5 harg5 hc0 hc1 hc2 x0 x1).2.1)

/-- Case A's pieces for scratch `arg5`, which the kernel carries between points, cover it: 1 piece of `S16x12288` tiling it (Lib/Ring.lean `Piece.tiledL`). -/
theorem scover0_A_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) (y : S16x12288.Idx) :
    ∃ pc ∈ (kernelRun0_A c i arg1 harg1 arg2 harg2 arg3 harg3 arg4 harg4 arg5 harg5 hc0 hc1 hc2 x0 x1).2.2.1, y ∈ pc.1.set :=
  View.cover_of_tiledL (kernelRun0_A c i arg1 harg1 arg2 harg2 arg3 harg3 arg4 harg4 arg5 harg5 hc0 hc1 hc2 x0 x1).2.2.1 S16x12288.size (by sl_kernel_rfl) y

/-- What case A leaves in scratch `arg5`: its pieces read back over junk. -/
def sout0_A_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) : Vec F S16x12288 .bf16 :=
  VS0_0.read (Elt F) (VS0_0.writes (Elt F) VS0_0.junk (kernelRun0_A c i arg1 harg1 arg2 harg2 arg3 harg3 arg4 harg4 arg5 harg5 hc0 hc1 hc2 x0 x1).2.2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) : Vec F S1x12288 .f32 :=
  VO0_2.read (Elt F) (VO0_2.writes (Elt F) VO0_2.junk (kernelRun0_B c i arg1 harg1 arg2 harg2 arg3 harg3 arg4 harg4 arg5 harg5 hc0 hc1 hc2 x0 x1 xs0).1)

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) : Vec F S1x12288 .f32 :=
  VO0_3.read (Elt F) (VO0_3.writes (Elt F) VO0_3.junk (kernelRun0_B c i arg1 harg1 arg2 harg2 arg3 harg3 arg4 harg4 arg5 harg5 hc0 hc1 hc2 x0 x1 xs0).2.1)

/-- Case B's pieces for scratch `arg5`, which the kernel carries between points, cover it: 1 piece of `S16x12288` tiling it (Lib/Ring.lean `Piece.tiledL`). -/
theorem scover0_B_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) (y : S16x12288.Idx) :
    ∃ pc ∈ (kernelRun0_B c i arg1 harg1 arg2 harg2 arg3 harg3 arg4 harg4 arg5 harg5 hc0 hc1 hc2 x0 x1 xs0).2.2.1, y ∈ pc.1.set :=
  View.cover_of_tiledL (kernelRun0_B c i arg1 harg1 arg2 harg2 arg3 harg3 arg4 harg4 arg5 harg5 hc0 hc1 hc2 x0 x1 xs0).2.2.1 S16x12288.size (by sl_kernel_rfl) y

/-- What case B leaves in scratch `arg5`: its pieces read back over junk. -/
def sout0_B_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) : Vec F S16x12288 .bf16 :=
  VS0_0.read (Elt F) (VS0_0.writes (Elt F) VS0_0.junk (kernelRun0_B c i arg1 harg1 arg2 harg2 arg3 harg3 arg4 harg4 arg5 harg5 hc0 hc1 hc2 x0 x1 xs0).2.2.1)

/-- Case C's pieces for output 2 tile its block (1 store of `S1x12288`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) (y : S1x12288.Idx) :
    ∃ pc ∈ (kernelRun0_C c i arg1 harg1 arg2 harg2 arg3 harg3 arg4 harg4 arg5 harg5 hc0 hc1 hc2 x0 x1 xs0).1, y ∈ pc.1.set :=
  View.cover_of_tiledL (kernelRun0_C c i arg1 harg1 arg2 harg2 arg3 harg3 arg4 harg4 arg5 harg5 hc0 hc1 hc2 x0 x1 xs0).1 S1x12288.size (by sl_kernel_rfl) y

/-- What case C leaves in output 2's staging buffer: its pieces read back over junk. -/
def out0_C_2 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) : Vec F S1x12288 .f32 :=
  VO0_2.read (Elt F) (VO0_2.writes (Elt F) VO0_2.junk (kernelRun0_C c i arg1 harg1 arg2 harg2 arg3 harg3 arg4 harg4 arg5 harg5 hc0 hc1 hc2 x0 x1 xs0).1)

/-- Case C's pieces for output 3 tile its block (1 store of `S1x12288`, checked by the kernel's evaluation: Lib/Ring.lean `Piece.tiledL`, linear in the pieces, through a loop's `@[irreducible]` trip theorem too), so they cover it. -/
theorem cover0_C_3 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) (y : S1x12288.Idx) :
    ∃ pc ∈ (kernelRun0_C c i arg1 harg1 arg2 harg2 arg3 harg3 arg4 harg4 arg5 harg5 hc0 hc1 hc2 x0 x1 xs0).2.1, y ∈ pc.1.set :=
  View.cover_of_tiledL (kernelRun0_C c i arg1 harg1 arg2 harg2 arg3 harg3 arg4 harg4 arg5 harg5 hc0 hc1 hc2 x0 x1 xs0).2.1 S1x12288.size (by sl_kernel_rfl) y

/-- What case C leaves in output 3's staging buffer: its pieces read back over junk. -/
def out0_C_3 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) : Vec F S1x12288 .f32 :=
  VO0_3.read (Elt F) (VO0_3.writes (Elt F) VO0_3.junk (kernelRun0_C c i arg1 harg1 arg2 harg2 arg3 harg3 arg4 harg4 arg5 harg5 hc0 hc1 hc2 x0 x1 xs0).2.1)

/-- Case C's pieces for scratch `arg5`, which the kernel carries between points, cover it: 1 piece of `S16x12288` tiling it (Lib/Ring.lean `Piece.tiledL`). -/
theorem scover0_C_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) (y : S16x12288.Idx) :
    ∃ pc ∈ (kernelRun0_C c i arg1 harg1 arg2 harg2 arg3 harg3 arg4 harg4 arg5 harg5 hc0 hc1 hc2 x0 x1 xs0).2.2.1, y ∈ pc.1.set :=
  View.cover_of_tiledL (kernelRun0_C c i arg1 harg1 arg2 harg2 arg3 harg3 arg4 harg4 arg5 harg5 hc0 hc1 hc2 x0 x1 xs0).2.2.1 S16x12288.size (by sl_kernel_rfl) y

/-- What case C leaves in scratch `arg5`: its pieces read back over junk. -/
def sout0_C_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) : Vec F S16x12288 .bf16 :=
  VS0_0.read (Elt F) (VS0_0.writes (Elt F) VS0_0.junk (kernelRun0_C c i arg1 harg1 arg2 harg2 arg3 harg3 arg4 harg4 arg5 harg5 hc0 hc1 hc2 x0 x1 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x12288 .f32 × Vec F S1x12288 .f32 × Vec F S16x12288 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩))
  | n + 1, hn =>
    if h0 : (n + 1) % 64 = 0 then
      if h1 : 1 ≤ (n + 1) then
        False.elim (by have hN : n + 1 < 64 := lt_of_lt_of_eq hn (show cfg0.N = 64 from N_0); omega)
      else
        if h2 : (n + 1) % 64 = 63 then
          False.elim (by have hN : n + 1 < 64 := lt_of_lt_of_eq hn (show cfg0.N = 64 from N_0); omega)
        else
          (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩))
    else
      if h1 : 1 ≤ (n + 1) then
        if h2 : (n + 1) % 64 = 63 then
          (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2)
        else
          (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2)
      else
        False.elim (by have hN : n + 1 < 64 := lt_of_lt_of_eq hn (show cfg0.N = 64 from N_0); omega)

/-- `outsAt0` at a point of case A: that case's contents. -/
theorem outsAt0_A (c : Dev nD) (t : Fin cfg0.N) (h0 : t.val % 64 = 0) (h1 : ¬1 ≤ t.val) (h2 : ¬t.val % 64 = 63) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk0 V c 0 t) (iblk0 V c 1 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 64 = 0) (h1 : 1 ≤ t.val) (h2 : ¬t.val % 64 = 63) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 64 = 0) (h1 : 1 ≤ t.val) (h2 : t.val % 64 = 63) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2) ∗ rest0 c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ rest0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 64 = 0
  · by_cases h1 : 1 ≤ t.val
    · exfalso; omega
    · by_cases h2 : t.val % 64 = 63
      · exfalso; omega
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        rw [Dat.leavesExact_idle (dat0 V c) 3 t (idleAt0_3_A t ((hcond0_0 t).mpr h0) (fun h => h1 ((hcond0_1 t).mp h)) (fun h => h2 ((hcond0_2 t).mp h))) (noFlush0_3_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨⟨HS0, HR⟩, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (fun h => h2 ((hcond0_2 t).mp h)) (iblk0 V c 0 t) (iblk0 V c 1 t)).2.2.2 _ _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_A_0 c _ _ _ _ _ _ _ _ _ _ _ _ _ _ _ _)
              iexact HR
            iexact Hg
          isplitl [Ho]; · iexact Ho
          isplitl [H0]; · iexact H0
          isplitl [H1]; · iexact H1
          isplitl [H2]; · iexists _; iexact H2
          iexists _; iexact H3
        · exfalso; have hN : t.val < 64 := lt_of_lt_of_eq t.isLt (show cfg0.N = 64 from N_0); omega
  · by_cases h1 : 1 ≤ t.val
    · by_cases h2 : t.val % 64 = 63
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        rw [show (dat0 V c).leavesExact 3 t = owns (c : Thread nD τ) (ms0_3 t) fullShare ((dat0 V c).after 3 t) from by
      unfold Dat.leavesExact; rw [liveAt0_3_C t (fun h => h0 ((hcond0_0 t).mp h)) ((hcond0_1 t).mpr h1) ((hcond0_2 t).mpr h2)], after0_3]
        by_cases hz : t.val = 0
        · exfalso; have hN : t.val < 64 := lt_of_lt_of_eq t.isLt (show cfg0.N = 64 from N_0); omega
        · rw [PhiS_castSucc V c t, PhiS_pos V c _ _ hz]
          rw [outsAt0_C V c t h0 h1 h2]
          unfold out0_C_2 out0_C_3 sout0_C_0; (try dsimp only)
          iintro ⟨⟨⟨HS0, HR⟩, Hg⟩, Ho, ⟨%d0, H0⟩, ⟨%d1, H1⟩, ⟨%d2, H2⟩, ⟨%d3, H3⟩⟩
          iapply ((kernelRun0_C c (grid0.coords t) _ _ _ _ _ _ _ _ _ _ (fun h => h0 ((hcond0_0 t).mp h)) ((hcond0_1 t).mpr h1) ((hcond0_2 t).mpr h2) (iblk0 V c 0 t) (iblk0 V c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_C_0 c _ _ _ _ _ _ _ _ _ _ _ _ _ _ _ _ _)
              iexact HR
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_C_2 c _ _ _ _ _ _ _ _ _ _ _ _ _ _ _ _ _)
          unfold owns; iexists _; isplitr
          swap; · iexact H3
          ipureintro; exact View.read_writes_of_cover _ _ _ _ _ (cover0_C_3 c _ _ _ _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        rw [Dat.leavesExact_idle (dat0 V c) 3 t (idleAt0_3_B t (fun h => h0 ((hcond0_0 t).mp h)) ((hcond0_1 t).mpr h1) (fun h => h2 ((hcond0_2 t).mp h))) (noFlush0_3_B t (fun h => h0 ((hcond0_0 t).mp h)) ((hcond0_1 t).mpr h1) (fun h => h2 ((hcond0_2 t).mp h)))]
        by_cases hz : t.val = 0
        · exfalso; have hN : t.val < 64 := lt_of_lt_of_eq t.isLt (show cfg0.N = 64 from N_0); omega
        · rw [PhiS_castSucc V c t, PhiS_pos V c _ _ hz]
          rw [outsAt0_B V c t h0 h1 h2]
          unfold sout0_B_0; (try dsimp only)
          iintro ⟨⟨⟨HS0, HR⟩, Hg⟩, Ho, ⟨%d0, H0⟩, ⟨%d1, H1⟩, ⟨%d2, H2⟩, ⟨%d3, H3⟩⟩
          iapply ((kernelRun0_B c (grid0.coords t) _ _ _ _ _ _ _ _ _ _ (fun h => h0 ((hcond0_0 t).mp h)) ((hcond0_1 t).mpr h1) (fun h => h2 ((hcond0_2 t).mp h)) (iblk0 V c 0 t) (iblk0 V c 1 t) _).2.2.2 _ _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_B_0 c _ _ _ _ _ _ _ _ _ _ _ _ _ _ _ _ _)
              iexact HR
            iexact Hg
          isplitl [Ho]; · iexact Ho
          isplitl [H0]; · iexact H0
          isplitl [H1]; · iexact H1
          isplitl [H2]; · iexists _; iexact H2
          iexists _; iexact H3
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 64 := N_0; omega)

end Cert.Kernel.Run

end
-- ==== Proof.KernelRun.Products.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1_wquant` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S12288x128 := Rect.unit (s := S12288x128) ![0, 0] S12288x128.size inb_S12288x128_S12288x128_0_0
abbrev r1_1 : Rect S12288x1 := Rect.unit (s := S12288x1) ![0, 0] S12288x1.size inb_S12288x1_S12288x1_0_0
abbrev r1_2 : Rect S1x128 := Rect.unit (s := S1x128) ![0, 0] S1x128.size inb_S1x128_S1x128_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S12288x128 .bf16) (x1 : Vec F S12288x1 .f32) : Vec F S12288x128 .i8 :=
  View.canon [⟨r1_0, k1_pay3 (View.ld x0 r1_0) (View.ld x1 r1_1)⟩]

/-- Its stores tile the buffer (checked by evaluation), so they cover it. -/
theorem cover1_2 (p0 : Vec F S12288x128 .i8) (y : S12288x128.Idx) :
    ∃ pc ∈ ([⟨r1_0, p0⟩] : List (View.Piece (Elt F) S12288x128 .i8)), y ∈ pc.1.set :=
  View.cover_of_tiled [⟨r1_0, p0⟩] S12288x128.size (by rfl) y

/-- Window 3's staging buffer after the body, from the input windows' blocks: its 1 store as pieces, LAST
    FIRST (Lib/Pipeline/FrameBody.lean `View.canon`; the payloads are the skeleton's). -/
def out1_3 (x0 : Vec F S12288x128 .bf16) (x1 : Vec F S12288x1 .f32) : Vec F S1x128 .f32 :=
  View.canon [⟨r1_2, k1_pay2 (View.ld x0 r1_0) (View.ld x1 r1_1)⟩]

/-- Its stores tile the buffer (checked by evaluation), so they cover it. -/
theorem cover1_3 (p0 : Vec F S1x128 .f32) (y : S1x128.Idx) :
    ∃ pc ∈ ([⟨r1_2, p0⟩] : List (View.Piece (Elt F) S1x128 .f32)), y ∈ pc.1.set :=
  View.cover_of_tiled [⟨r1_2, p0⟩] S1x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S12288x128 .bf16) (harg1 : arg1.IsWhole) (arg2 : Memref sig .tc .vmem S12288x1 .f32) (harg2 : arg2.IsWhole) (arg3 : Memref sig .tc .vmem S12288x128 .i8) (harg3 : arg3.IsWhole) (arg4 : Memref sig .tc .vmem S1x128 .f32) (harg4 : arg4.IsWhole)
    (x0 : Vec F S12288x128 .bf16) (x1 : Vec F S12288x1 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1_wquant i arg1 harg1 arg2 harg2 arg3 harg3 arg4 harg4) K := by
  simp only [cc1_wquant_eq_skeleton]; unfold cc1_wquant_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_xquant` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S128x12288 := Rect.unit (s := S128x12288) ![0, 0] S128x12288.size inb_S128x12288_S128x12288_0_0
abbrev r2_1 : Rect S1x12288 := Rect.unit (s := S1x12288) ![0, 0] S1x12288.size inb_S1x12288_S1x12288_0_0
abbrev r2_2 : Rect S128x1 := Rect.unit (s := S128x1) ![0, 0] S128x1.size inb_S128x1_S128x1_0_0

/-! ## What the body leaves in each output window's buffer -/

/-- Window 2's staging buffer after the body, from the input windows' blocks: its 1 store as pieces, LAST
    FIRST (Lib/Pipeline/FrameBody.lean `View.canon`; the payloads are the skeleton's). -/
def out2_2 (x0 : Vec F S128x12288 .bf16) (x1 : Vec F S1x12288 .f32) : Vec F S128x12288 .i8 :=
  View.canon [⟨r2_0, k2_pay3 (View.ld x0 r2_0) (View.ld x1 r2_1)⟩]

/-- Its stores tile the buffer (checked by evaluation), so they cover it. -/
theorem cover2_2 (p0 : Vec F S128x12288 .i8) (y : S128x12288.Idx) :
    ∃ pc ∈ ([⟨r2_0, p0⟩] : List (View.Piece (Elt F) S128x12288 .i8)), y ∈ pc.1.set :=
  View.cover_of_tiled [⟨r2_0, p0⟩] S128x12288.size (by rfl) y

/-- Window 3's staging buffer after the body, from the input windows' blocks: its 1 store as pieces, LAST
    FIRST (Lib/Pipeline/FrameBody.lean `View.canon`; the payloads are the skeleton's). -/
def out2_3 (x0 : Vec F S128x12288 .bf16) (x1 : Vec F S1x12288 .f32) : Vec F S128x1 .f32 :=
  View.canon [⟨r2_2, k2_pay2 (View.ld x0 r2_0) (View.ld x1 r2_1)⟩]

/-- Its stores tile the buffer (checked by evaluation), so they cover it. -/
theorem cover2_3 (p0 : Vec F S128x1 .f32) (y : S128x1.Idx) :
    ∃ pc ∈ ([⟨r2_2, p0⟩] : List (View.Piece (Elt F) S128x1 .f32)), y ∈ pc.1.set :=
  View.cover_of_tiled [⟨r2_2, p0⟩] S128x1.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S128x12288 .bf16) (harg1 : arg1.IsWhole) (arg2 : Memref sig .tc .vmem S1x12288 .f32) (harg2 : arg2.IsWhole) (arg3 : Memref sig .tc .vmem S128x12288 .i8) (harg3 : arg3.IsWhole) (arg4 : Memref sig .tc .vmem S128x1 .f32) (harg4 : arg4.IsWhole)
    (x0 : Vec F S128x12288 .bf16) (x1 : Vec F S1x12288 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2_xquant i arg1 harg1 arg2 harg2 arg3 harg3 arg4 harg4) K := by
  simp only [cc2_xquant_eq_skeleton]; unfold cc2_xquant_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3_mm` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x12288 := Rect.unit (s := S512x12288) ![0, 0] S512x12288.size inb_S512x12288_S512x12288_0_0
abbrev r3_1 : Rect S12288x512 := Rect.unit (s := S12288x512) ![0, 0] S12288x512.size inb_S12288x512_S12288x512_0_0
abbrev r3_2 : Rect S512x1 := Rect.unit (s := S512x1) ![0, 0] S512x1.size inb_S512x1_S512x1_0_0
abbrev r3_3 : Rect S1x512 := Rect.unit (s := S1x512) ![0, 0] S1x512.size inb_S1x512_S1x512_0_0
abbrev r3_4 : Rect S512x512 := Rect.unit (s := S512x512) ![0, 0] S512x512.size inb_S512x512_S512x512_0_0

/-! ## What the body leaves in each output window's buffer -/

/-- Window 4's staging buffer after the body, from the input windows' blocks: its 1 store as pieces, LAST
    FIRST (Lib/Pipeline/FrameBody.lean `View.canon`; the payloads are the skeleton's). -/
def out3_4 (x0 : Vec F S512x12288 .i8) (x1 : Vec F S12288x512 .i8) (x2 : Vec F S512x1 .f32) (x3 : Vec F S1x512 .f32) : Vec F S512x512 .bf16 :=
  View.canon [⟨r3_4, k3_pay1 (View.ld x0 r3_0) (View.ld x1 r3_1) (View.ld x2 r3_2) (View.ld x3 r3_3)⟩]

/-- Its stores tile the buffer (checked by evaluation), so they cover it. -/
theorem cover3_4 (p0 : Vec F S512x512 .bf16) (y : S512x512.Idx) :
    ∃ pc ∈ ([⟨r3_4, p0⟩] : List (View.Piece (Elt F) S512x512 .bf16)), y ∈ pc.1.set :=
  View.cover_of_tiled [⟨r3_4, p0⟩] S512x512.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg2 : Memref sig .tc .vmem S512x12288 .i8) (harg2 : arg2.IsWhole) (arg3 : Memref sig .tc .vmem S12288x512 .i8) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .bf16) (harg6 : arg6.IsWhole)
    (x0 : Vec F S512x12288 .i8) (x1 : Vec F S12288x512 .i8) (x2 : Vec F S512x1 .f32) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3_mm i arg2 harg2 arg3 harg3 arg4 harg4 arg5 harg5 arg6 harg6) K := by
  simp only [cc3_mm_eq_skeleton]; unfold cc3_mm_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.Kernel.Run

end
-- ==== Proof.KernelRun.Launch.lean ====
module

public import proofs.«01_k».proof.Proof.KernelRun.Smooth
public import Idealize.ShloMosaic.Lib.Pipeline.RegionsLoop
public import Idealize.ShloMosaic.Lib.Pipeline.FrameSuffix
public import proofs.«01_k».proof.Proof.KernelRun.Products

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v7, main_v8, main_v9, main_v10, main_v11]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
/-- A reference `hostOps4` does not write keeps its contents across it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin0 (V1 m ρ) c
    unfold Pipeline.ΦA at h0
    rw [show (pdats m ρ 0 c).Φ 0 = (dat0 (V1 m ρ) c).Φ 0 from rfl]
    iintro ⟨Hp, -, Hr⟩
    iapply h0
    isplitl [Hr]; · iexact Hr
    iexact Hp
  hout c := by
    have h0 := hout0 (V1 m ρ) c
    unfold Pipeline.ΦA at h0
    rw [Pipeline.ownSems0_none, show (pdats m ρ 0 c).Φ (Fin.last _) = (dat0 (V1 m ρ) c).Φ (Fin.last cfg0.N) from rfl]
    iintro H
    ihave H2 := h0 $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .region (reg3 m ρ),
    .host (hseg hostOps4 hostOps4_sub hostOps4_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W7_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.Kernel.Run

end
-- ==== Proof.KernelIdealRun.Smooth.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_smooth` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_2, k0_cond3, e0]
    word_cmp
   : ∀ t : Fin grid0.N, cond0_2 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel
/-- At the points of case A the printed configuration (`Cfg.idle`) calls output 3 idle: the case stores nothing into it. -/
theorem idleAt0_3_A : ∀ t : Fin cfg0.N, cond0_0 (grid0.coords t) → ¬cond0_1 (grid0.coords t) → ¬cond0_2 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → ¬cond0_2 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → cond0_1 (grid0.coords t) → ¬cond0_2 (grid0.coords t) → cfg0.idle 3 (grid0.coords t) = true := by decide +kernel
/-- At the points of case B the pipeline does not write output 3's block back. -/
theorem noFlush0_3_B : ∀ t : Fin cfg0.N, ¬cond0_0 (grid0.coords t) → cond0_1 (grid0.coords t) → ¬cond0_2 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cond0_2 (grid0.coords t) → cfg0.idle 3 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1x12288 .f32 := (Memref.whole cc0_stg2_0 : Memref sig .tc .vmem S1x12288 .f32).view
/-- One staging buffer of output window 3, through which its contents are stated (`View.read_writes_of_cover`: the
    choice does not matter). -/
abbrev VO0_3 : View sig .tc .vmem S1x12288 .f32 := (Memref.whole cc0_stg3_0 : Memref sig .tc .vmem S1x12288 .f32).view
/-- Each window's current staging memref at point `t`, spelled as the pipeline passes it (`bodyAt0`), and its wholeness. -/
abbrev ms0_0 (t : Fin cfg0.N) : Memref sig .tc .vmem S256x12288 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12288 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x12288 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x12288 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S16x12288 .bf16 := Memref.whole cc0_scratch0
/-- The scratch `arg5` the kernel carries between points, as a view: what it holds is stated through it. -/
abbrev VS0_0 : View sig .tc .vmem S16x12288 .bf16 := scM0_0.view

/-- The scoped buffers that are neither a staging buffer of this call nor its scratch: every other call's, unopened. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch operand as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_split]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (2, 3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) :
    Σ' (L2 : List (View.Piece (Elt F) S1x12288 .f32)), Σ' (L3 : List (View.Piece (Elt F) S1x12288 .f32)), { LS0 : List (View.Piece (Elt F) S16x12288 .bf16) //
      ∀ (xi2 : Vec F S1x12288 .f32) (xi3 : Vec F S1x12288 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_smooth i arg1 harg1 arg2 harg2 arg3 harg3 arg4 harg4 arg5 harg5) K } := by
  refine ⟨[], [], ?_, fun xi2 xi3 E K => ?run⟩
  case run =>
    simp only [cc0_smooth_eq_skeleton]; unfold cc0_smooth_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 62: 62 of 64), WITH the
    proof that on whole staging memrefs — the inputs' at their contents, the outputs it leaves idle (2, 3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) :
    Σ' (L2 : List (View.Piece (Elt F) S1x12288 .f32)), Σ' (L3 : List (View.Piece (Elt F) S1x12288 .f32)), { LS0 : List (View.Piece (Elt F) S16x12288 .bf16) //
      ∀ (xi2 : Vec F S1x12288 .f32) (xi3 : Vec F S1x12288 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_smooth i arg1 harg1 arg2 harg2 arg3 harg3 arg4 harg4 arg5 harg5) K } := by
  refine ⟨[], [], ?_, fun xi2 xi3 E K => ?run⟩
  case run =>
    simp only [cc0_smooth_eq_skeleton]; unfold cc0_smooth_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) :
    Σ' (L2 : List (View.Piece (Elt F) S1x12288 .f32)), Σ' (L3 : List (View.Piece (Elt F) S1x12288 .f32)), { LS0 : List (View.Piece (Elt F) S16x12288 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_smooth i arg1 harg1 arg2 harg2 arg3 harg3 arg4 harg4 arg5 harg5) K } := by
  refine ⟨?_, ?_, ?_, fun E K => ?run⟩
  case run =>
    simp only [cc0_smooth_eq_skeleton]; unfold cc0_smooth_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) : Vec F S1x12288 .f32 :=
  VO0_2.read (Elt F) (VO0_2.writes (Elt F) VO0_2.junk (kernelRun0_A c i arg1 harg1 arg2 harg2 arg3 harg3 arg4 harg4 arg5 harg5 hc0 hc1 hc2 x0 x1).1)

/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) : Vec F S1x12288 .f32 :=
  VO0_3.read (Elt F) (VO0_3.writes (Elt F) VO0_3.junk (kernelRun0_A c i arg1 harg1 arg2 harg2 arg3 harg3 arg4 harg4 arg5 harg5 hc0 hc1 hc2 x0 x1).2.1)

/-- Case A's pieces for scratch `arg5`, which the kernel carries between points, cover it: 1 piece of `S16x12288` tiling it (Lib/Ring.lean `Piece.tiledL`). -/
theorem scover0_A_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) (y : S16x12288.Idx) :
    ∃ pc ∈ (kernelRun0_A c i arg1 harg1 arg2 harg2 arg3 harg3 arg4 harg4 arg5 harg5 hc0 hc1 hc2 x0 x1).2.2.1, y ∈ pc.1.set :=
  View.cover_of_tiledL (kernelRun0_A c i arg1 harg1 arg2 harg2 arg3 harg3 arg4 harg4 arg5 harg5 hc0 hc1 hc2 x0 x1).2.2.1 S16x12288.size (by sl_kernel_rfl) y

/-- What case A leaves in scratch `arg5`: its pieces read back over junk. -/
def sout0_A_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : cond0_0 i) (hc1 : ¬cond0_1 i) (hc2 : ¬cond0_2 i)
    (x0 : Vec F S256x12288 .bf16) (x1 : Vec F S1x12288 .f32) : Vec F S16x12288 .bf16 :=
  VS0_0.read (Elt F) (VS0_0.writes (Elt F) VS0_0.junk (kernelRun0_A c i arg1 harg1 arg2 harg2 arg3 harg3 arg4 harg4 arg5 harg5 hc0 hc1 hc2 x0 x1).2.2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) : Vec F S1x12288 .f32 :=
  VO0_2.read (Elt F) (VO0_2.writes (Elt F) VO0_2.junk (kernelRun0_B c i arg1 harg1 arg2 harg2 arg3 harg3 arg4 harg4 arg5 harg5 hc0 hc1 hc2 x0 x1 xs0).1)

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) : Vec F S1x12288 .f32 :=
  VO0_3.read (Elt F) (VO0_3.writes (Elt F) VO0_3.junk (kernelRun0_B c i arg1 harg1 arg2 harg2 arg3 harg3 arg4 harg4 arg5 harg5 hc0 hc1 hc2 x0 x1 xs0).2.1)

/-- Case B's pieces for scratch `arg5`, which the kernel carries between points, cover it: 1 piece of `S16x12288` tiling it (Lib/Ring.lean `Piece.tiledL`). -/
theorem scover0_B_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) (y : S16x12288.Idx) :
    ∃ pc ∈ (kernelRun0_B c i arg1 harg1 arg2 harg2 arg3 harg3 arg4 harg4 arg5 harg5 hc0 hc1 hc2 x0 x1 xs0).2.2.1, y ∈ pc.1.set :=
  View.cover_of_tiledL (kernelRun0_B c i arg1 harg1 arg2 harg2 arg3 harg3 arg4 harg4 arg5 harg5 hc0 hc1 hc2 x0 x1 xs0).2.2.1 S16x12288.size (by sl_kernel_rfl) y

/-- What case B leaves in scratch `arg5`: its pieces read back over junk. -/
def sout0_B_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : ¬cond0_2 i)
    (x0 : Vec F S256x12288 .bf16) (x1 : Vec F S1x12288 .f32) (xs0 : Vec F S16x12288 .bf16) : Vec F S16x12288 .bf16 :=
  VS0_0.read (Elt F) (VS0_0.writes (Elt F) VS0_0.junk (kernelRun0_B c i arg1 harg1 arg2 harg2 arg3 harg3 arg4 harg4 arg5 harg5 hc0 hc1 hc2 x0 x1 xs0).2.2.1)

/-- Case C's pieces for output 2 tile its block (1 store of `S1x12288`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) (y : S1x12288.Idx) :
    ∃ pc ∈ (kernelRun0_C c i arg1 harg1 arg2 harg2 arg3 harg3 arg4 harg4 arg5 harg5 hc0 hc1 hc2 x0 x1 xs0).1, y ∈ pc.1.set :=
  View.cover_of_tiledL (kernelRun0_C c i arg1 harg1 arg2 harg2 arg3 harg3 arg4 harg4 arg5 harg5 hc0 hc1 hc2 x0 x1 xs0).1 S1x12288.size (by sl_kernel_rfl) y

/-- What case C leaves in output 2's staging buffer: its pieces read back over junk. -/
def out0_C_2 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) : Vec F S1x12288 .f32 :=
  VO0_2.read (Elt F) (VO0_2.writes (Elt F) VO0_2.junk (kernelRun0_C c i arg1 harg1 arg2 harg2 arg3 harg3 arg4 harg4 arg5 harg5 hc0 hc1 hc2 x0 x1 xs0).1)

/-- Case C's pieces for output 3 tile its block (1 store of `S1x12288`, checked by the kernel's evaluation: Lib/Ring.lean `Piece.tiledL`, linear in the pieces, through a loop's `@[irreducible]` trip theorem too), so they cover it. -/
theorem cover0_C_3 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) (y : S1x12288.Idx) :
    ∃ pc ∈ (kernelRun0_C c i arg1 harg1 arg2 harg2 arg3 harg3 arg4 harg4 arg5 harg5 hc0 hc1 hc2 x0 x1 xs0).2.1, y ∈ pc.1.set :=
  View.cover_of_tiledL (kernelRun0_C c i arg1 harg1 arg2 harg2 arg3 harg3 arg4 harg4 arg5 harg5 hc0 hc1 hc2 x0 x1 xs0).2.1 S1x12288.size (by sl_kernel_rfl) y

/-- What case C leaves in output 3's staging buffer: its pieces read back over junk. -/
def out0_C_3 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) : Vec F S1x12288 .f32 :=
  VO0_3.read (Elt F) (VO0_3.writes (Elt F) VO0_3.junk (kernelRun0_C c i arg1 harg1 arg2 harg2 arg3 harg3 arg4 harg4 arg5 harg5 hc0 hc1 hc2 x0 x1 xs0).2.1)

/-- Case C's pieces for scratch `arg5`, which the kernel carries between points, cover it: 1 piece of `S16x12288` tiling it (Lib/Ring.lean `Piece.tiledL`). -/
theorem scover0_C_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) (y : S16x12288.Idx) :
    ∃ pc ∈ (kernelRun0_C c i arg1 harg1 arg2 harg2 arg3 harg3 arg4 harg4 arg5 harg5 hc0 hc1 hc2 x0 x1 xs0).2.2.1, y ∈ pc.1.set :=
  View.cover_of_tiledL (kernelRun0_C c i arg1 harg1 arg2 harg2 arg3 harg3 arg4 harg4 arg5 harg5 hc0 hc1 hc2 x0 x1 xs0).2.2.1 S16x12288.size (by sl_kernel_rfl) y

/-- What case C leaves in scratch `arg5`: its pieces read back over junk. -/
def sout0_C_0 (c : Dev nD) (i : grid0.Coords) (arg1 : Memref sig .tc .vmem S256x12288 .bf16) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1x12288 .f32) (harg4 : arg4.IsWhole) (arg5 : Memref sig .tc .vmem S16x12288 .bf16) (harg5 : arg5.IsWhole) (hc0 : ¬cond0_0 i) (hc1 : cond0_1 i) (hc2 : cond0_2 i)
    (x0 : Vec F S256x12288 .bf16) (x1 : Vec F S1x12288 .f32) (xs0 : Vec F S16x12288 .bf16) : Vec F S16x12288 .bf16 :=
  VS0_0.read (Elt F) (VS0_0.writes (Elt F) VS0_0.junk (kernelRun0_C c i arg1 harg1 arg2 harg2 arg3 harg3 arg4 harg4 arg5 harg5 hc0 hc1 hc2 x0 x1 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x12288 .f32 × Vec F S1x12288 .f32 × Vec F S16x12288 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩))
  | n + 1, hn =>
    if h0 : (n + 1) % 64 = 0 then
      if h1 : 1 ≤ (n + 1) then
        False.elim (by have hN : n + 1 < 64 := lt_of_lt_of_eq hn (show cfg0.N = 64 from N_0); omega)
      else
        if h2 : (n + 1) % 64 = 63 then
          False.elim (by have hN : n + 1 < 64 := lt_of_lt_of_eq hn (show cfg0.N = 64 from N_0); omega)
        else
          (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩))
    else
      if h1 : 1 ≤ (n + 1) then
        if h2 : (n + 1) % 64 = 63 then
          (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2)
        else
          (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2)
      else
        False.elim (by have hN : n + 1 < 64 := lt_of_lt_of_eq hn (show cfg0.N = 64 from N_0); omega)

/-- `outsAt0` at a point of case A: that case's contents. -/
theorem outsAt0_A (c : Dev nD) (t : Fin cfg0.N) (h0 : t.val % 64 = 0) (h1 : ¬1 ≤ t.val) (h2 : ¬t.val % 64 = 63) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk0 V c 0 t) (iblk0 V c 1 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 64 = 0) (h1 : 1 ≤ t.val) (h2 : ¬t.val % 64 = 63) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 64 = 0) (h1 : 1 ≤ t.val) (h2 : t.val % 64 = 63) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2) ∗ rest0 c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ rest0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 64 = 0
  · by_cases h1 : 1 ≤ t.val
    · exfalso; omega
    · by_cases h2 : t.val % 64 = 63
      · exfalso; omega
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        rw [Dat.leavesExact_idle (dat0 V c) 3 t (idleAt0_3_A t ((hcond0_0 t).mpr h0) (fun h => h1 ((hcond0_1 t).mp h)) (fun h => h2 ((hcond0_2 t).mp h))) (noFlush0_3_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨⟨HS0, HR⟩, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (fun h => h2 ((hcond0_2 t).mp h)) (iblk0 V c 0 t) (iblk0 V c 1 t)).2.2.2 _ _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_A_0 c _ _ _ _ _ _ _ _ _ _ _ _ _ _ _ _)
              iexact HR
            iexact Hg
          isplitl [Ho]; · iexact Ho
          isplitl [H0]; · iexact H0
          isplitl [H1]; · iexact H1
          isplitl [H2]; · iexists _; iexact H2
          iexists _; iexact H3
        · exfalso; have hN : t.val < 64 := lt_of_lt_of_eq t.isLt (show cfg0.N = 64 from N_0); omega
  · by_cases h1 : 1 ≤ t.val
    · by_cases h2 : t.val % 64 = 63
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        rw [show (dat0 V c).leavesExact 3 t = owns (c : Thread nD τ) (ms0_3 t) fullShare ((dat0 V c).after 3 t) from by
      unfold Dat.leavesExact; rw [liveAt0_3_C t (fun h => h0 ((hcond0_0 t).mp h)) ((hcond0_1 t).mpr h1) ((hcond0_2 t).mpr h2)], after0_3]
        by_cases hz : t.val = 0
        · exfalso; have hN : t.val < 64 := lt_of_lt_of_eq t.isLt (show cfg0.N = 64 from N_0); omega
        · rw [PhiS_castSucc V c t, PhiS_pos V c _ _ hz]
          rw [outsAt0_C V c t h0 h1 h2]
          unfold out0_C_2 out0_C_3 sout0_C_0; (try dsimp only)
          iintro ⟨⟨⟨HS0, HR⟩, Hg⟩, Ho, ⟨%d0, H0⟩, ⟨%d1, H1⟩, ⟨%d2, H2⟩, ⟨%d3, H3⟩⟩
          iapply ((kernelRun0_C c (grid0.coords t) _ _ _ _ _ _ _ _ _ _ (fun h => h0 ((hcond0_0 t).mp h)) ((hcond0_1 t).mpr h1) ((hcond0_2 t).mpr h2) (iblk0 V c 0 t) (iblk0 V c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_C_0 c _ _ _ _ _ _ _ _ _ _ _ _ _ _ _ _ _)
              iexact HR
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_C_2 c _ _ _ _ _ _ _ _ _ _ _ _ _ _ _ _ _)
          unfold owns; iexists _; isplitr
          swap; · iexact H3
          ipureintro; exact View.read_writes_of_cover _ _ _ _ _ (cover0_C_3 c _ _ _ _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        rw [Dat.leavesExact_idle (dat0 V c) 3 t (idleAt0_3_B t (fun h => h0 ((hcond0_0 t).mp h)) ((hcond0_1 t).mpr h1) (fun h => h2 ((hcond0_2 t).mp h))) (noFlush0_3_B t (fun h => h0 ((hcond0_0 t).mp h)) ((hcond0_1 t).mpr h1) (fun h => h2 ((hcond0_2 t).mp h)))]
        by_cases hz : t.val = 0
        · exfalso; have hN : t.val < 64 := lt_of_lt_of_eq t.isLt (show cfg0.N = 64 from N_0); omega
        · rw [PhiS_castSucc V c t, PhiS_pos V c _ _ hz]
          rw [outsAt0_B V c t h0 h1 h2]
          unfold sout0_B_0; (try dsimp only)
          iintro ⟨⟨⟨HS0, HR⟩, Hg⟩, Ho, ⟨%d0, H0⟩, ⟨%d1, H1⟩, ⟨%d2, H2⟩, ⟨%d3, H3⟩⟩
          iapply ((kernelRun0_B c (grid0.coords t) _ _ _ _ _ _ _ _ _ _ (fun h => h0 ((hcond0_0 t).mp h)) ((hcond0_1 t).mpr h1) (fun h => h2 ((hcond0_2 t).mp h)) (iblk0 V c 0 t) (iblk0 V c 1 t) _).2.2.2 _ _ Set.univ _)
          isplitl [H0]; · iexact H0
          isplitl [H1]; · iexact H1
          isplitl [H2]; · iexact H2
          isplitl [H3]; · iexact H3
          isplitl [HS0]; · iexact HS0
          iintro ⟨H0, H1, H2, H3, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_B_0 c _ _ _ _ _ _ _ _ _ _ _ _ _ _ _ _ _)
              iexact HR
            iexact Hg
          isplitl [Ho]; · iexact Ho
          isplitl [H0]; · iexact H0
          isplitl [H1]; · iexact H1
          isplitl [H2]; · iexists _; iexact H2
          iexists _; iexact H3
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 64 := N_0; omega)

end Cert.KernelIdeal.Run

end
-- ==== Proof.KernelIdealRun.Products.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1_wquant` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S12288x128 := Rect.unit (s := S12288x128) ![0, 0] S12288x128.size inb_S12288x128_S12288x128_0_0
abbrev r1_1 : Rect S12288x1 := Rect.unit (s := S12288x1) ![0, 0] S12288x1.size inb_S12288x1_S12288x1_0_0
abbrev r1_2 : Rect S1x128 := Rect.unit (s := S1x128) ![0, 0] S1x128.size inb_S1x128_S1x128_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S12288x128 .bf16) (x1 : Vec F S12288x1 .f32) : Vec F S12288x128 .i8 :=
  View.canon [⟨r1_0, k1_pay3 (View.ld x0 r1_0) (View.ld x1 r1_1)⟩]

/-- Its stores tile the buffer (checked by evaluation), so they cover it. -/
theorem cover1_2 (p0 : Vec F S12288x128 .i8) (y : S12288x128.Idx) :
    ∃ pc ∈ ([⟨r1_0, p0⟩] : List (View.Piece (Elt F) S12288x128 .i8)), y ∈ pc.1.set :=
  View.cover_of_tiled [⟨r1_0, p0⟩] S12288x128.size (by rfl) y

/-- Window 3's staging buffer after the body, from the input windows' blocks: its 1 store as pieces, LAST
    FIRST (Lib/Pipeline/FrameBody.lean `View.canon`; the payloads are the skeleton's). -/
def out1_3 (x0 : Vec F S12288x128 .bf16) (x1 : Vec F S12288x1 .f32) : Vec F S1x128 .f32 :=
  View.canon [⟨r1_2, k1_pay2 (View.ld x0 r1_0) (View.ld x1 r1_1)⟩]

/-- Its stores tile the buffer (checked by evaluation), so they cover it. -/
theorem cover1_3 (p0 : Vec F S1x128 .f32) (y : S1x128.Idx) :
    ∃ pc ∈ ([⟨r1_2, p0⟩] : List (View.Piece (Elt F) S1x128 .f32)), y ∈ pc.1.set :=
  View.cover_of_tiled [⟨r1_2, p0⟩] S1x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S12288x128 .bf16) (harg1 : arg1.IsWhole) (arg2 : Memref sig .tc .vmem S12288x1 .f32) (harg2 : arg2.IsWhole) (arg3 : Memref sig .tc .vmem S12288x128 .i8) (harg3 : arg3.IsWhole) (arg4 : Memref sig .tc .vmem S1x128 .f32) (harg4 : arg4.IsWhole)
    (x0 : Vec F S12288x128 .bf16) (x1 : Vec F S12288x1 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1_wquant i arg1 harg1 arg2 harg2 arg3 harg3 arg4 harg4) K := by
  simp only [cc1_wquant_eq_skeleton]; unfold cc1_wquant_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_xquant` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S128x12288 := Rect.unit (s := S128x12288) ![0, 0] S128x12288.size inb_S128x12288_S128x12288_0_0
abbrev r2_1 : Rect S1x12288 := Rect.unit (s := S1x12288) ![0, 0] S1x12288.size inb_S1x12288_S1x12288_0_0
abbrev r2_2 : Rect S128x1 := Rect.unit (s := S128x1) ![0, 0] S128x1.size inb_S128x1_S128x1_0_0

/-! ## What the body leaves in each output window's buffer -/

/-- Window 2's staging buffer after the body, from the input windows' blocks: its 1 store as pieces, LAST
    FIRST (Lib/Pipeline/FrameBody.lean `View.canon`; the payloads are the skeleton's). -/
def out2_2 (x0 : Vec F S128x12288 .bf16) (x1 : Vec F S1x12288 .f32) : Vec F S128x12288 .i8 :=
  View.canon [⟨r2_0, k2_pay3 (View.ld x0 r2_0) (View.ld x1 r2_1)⟩]

/-- Its stores tile the buffer (checked by evaluation), so they cover it. -/
theorem cover2_2 (p0 : Vec F S128x12288 .i8) (y : S128x12288.Idx) :
    ∃ pc ∈ ([⟨r2_0, p0⟩] : List (View.Piece (Elt F) S128x12288 .i8)), y ∈ pc.1.set :=
  View.cover_of_tiled [⟨r2_0, p0⟩] S128x12288.size (by rfl) y

/-- Window 3's staging buffer after the body, from the input windows' blocks: its 1 store as pieces, LAST
    FIRST (Lib/Pipeline/FrameBody.lean `View.canon`; the payloads are the skeleton's). -/
def out2_3 (x0 : Vec F S128x12288 .bf16) (x1 : Vec F S1x12288 .f32) : Vec F S128x1 .f32 :=
  View.canon [⟨r2_2, k2_pay2 (View.ld x0 r2_0) (View.ld x1 r2_1)⟩]

/-- Its stores tile the buffer (checked by evaluation), so they cover it. -/
theorem cover2_3 (p0 : Vec F S128x1 .f32) (y : S128x1.Idx) :
    ∃ pc ∈ ([⟨r2_2, p0⟩] : List (View.Piece (Elt F) S128x1 .f32)), y ∈ pc.1.set :=
  View.cover_of_tiled [⟨r2_2, p0⟩] S128x1.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S128x12288 .bf16) (harg1 : arg1.IsWhole) (arg2 : Memref sig .tc .vmem S1x12288 .f32) (harg2 : arg2.IsWhole) (arg3 : Memref sig .tc .vmem S128x12288 .i8) (harg3 : arg3.IsWhole) (arg4 : Memref sig .tc .vmem S128x1 .f32) (harg4 : arg4.IsWhole)
    (x0 : Vec F S128x12288 .bf16) (x1 : Vec F S1x12288 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2_xquant i arg1 harg1 arg2 harg2 arg3 harg3 arg4 harg4) K := by
  simp only [cc2_xquant_eq_skeleton]; unfold cc2_xquant_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3_mm` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x12288 := Rect.unit (s := S512x12288) ![0, 0] S512x12288.size inb_S512x12288_S512x12288_0_0
abbrev r3_1 : Rect S12288x512 := Rect.unit (s := S12288x512) ![0, 0] S12288x512.size inb_S12288x512_S12288x512_0_0
abbrev r3_2 : Rect S512x1 := Rect.unit (s := S512x1) ![0, 0] S512x1.size inb_S512x1_S512x1_0_0
abbrev r3_3 : Rect S1x512 := Rect.unit (s := S1x512) ![0, 0] S1x512.size inb_S1x512_S1x512_0_0
abbrev r3_4 : Rect S512x512 := Rect.unit (s := S512x512) ![0, 0] S512x512.size inb_S512x512_S512x512_0_0

/-! ## What the body leaves in each output window's buffer -/

/-- Window 4's staging buffer after the body, from the input windows' blocks: its 1 store as pieces, LAST
    FIRST (Lib/Pipeline/FrameBody.lean `View.canon`; the payloads are the skeleton's). -/
def out3_4 (x0 : Vec F S512x12288 .i8) (x1 : Vec F S12288x512 .i8) (x2 : Vec F S512x1 .f32) (x3 : Vec F S1x512 .f32) : Vec F S512x512 .bf16 :=
  View.canon [⟨r3_4, k3_pay1 (View.ld x0 r3_0) (View.ld x1 r3_1) (View.ld x2 r3_2) (View.ld x3 r3_3)⟩]

/-- Its stores tile the buffer (checked by evaluation), so they cover it. -/
theorem cover3_4 (p0 : Vec F S512x512 .bf16) (y : S512x512.Idx) :
    ∃ pc ∈ ([⟨r3_4, p0⟩] : List (View.Piece (Elt F) S512x512 .bf16)), y ∈ pc.1.set :=
  View.cover_of_tiled [⟨r3_4, p0⟩] S512x512.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg2 : Memref sig .tc .vmem S512x12288 .i8) (harg2 : arg2.IsWhole) (arg3 : Memref sig .tc .vmem S12288x512 .i8) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .bf16) (harg6 : arg6.IsWhole)
    (x0 : Vec F S512x12288 .i8) (x1 : Vec F S12288x512 .i8) (x2 : Vec F S512x1 .f32) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3_mm i arg2 harg2 arg3 harg3 arg4 harg4 arg5 harg5 arg6 harg6) K := by
  simp only [cc3_mm_eq_skeleton]; unfold cc3_mm_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Run

end
-- ==== Proof.KernelIdealRun.Launch.lean ====
module

public import proofs.«01_k».proof.Proof.KernelIdealRun.Smooth
public import Idealize.ShloMosaic.Lib.Pipeline.RegionsLoop
public import Idealize.ShloMosaic.Lib.Pipeline.FrameSuffix
public import proofs.«01_k».proof.Proof.KernelIdealRun.Products

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v7, main_v8, main_v9, main_v10, main_v11]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
/-- A reference `hostOps4` does not write keeps its contents across it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := hin0 (V1 m ρ) c
    unfold Pipeline.ΦA at h0
    rw [show (pdats m ρ 0 c).Φ 0 = (dat0 (V1 m ρ) c).Φ 0 from rfl]
    iintro ⟨Hp, -, Hr⟩
    iapply h0
    isplitl [Hr]; · iexact Hr
    iexact Hp
  hout c := by
    have h0 := hout0 (V1 m ρ) c
    unfold Pipeline.ΦA at h0
    rw [Pipeline.ownSems0_none, show (pdats m ρ 0 c).Φ (Fin.last _) = (dat0 (V1 m ρ) c).Φ (Fin.last cfg0.N) from rfl]
    iintro H
    ihave H2 := h0 $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .region (reg3 m ρ),
    .host (hseg hostOps4 hostOps4_sub hostOps4_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W7_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.KernelIdeal.Run

end
-- ==== Proof.KernelIdealValue.Run.lean ====
module

public import proofs.«01_k».proof.Proof.KernelIdealRun.Smooth
public import Idealize.ShloMosaic.Lib.Pipeline.RegionsLoop
public import Idealize.ShloMosaic.Lib.Pipeline.FrameSuffix
public import proofs.«01_k».proof.Proof.KernelIdealRun.Launch

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run, with what every result ends at -/

-- `θ_run_regions_kit_sems`'s implicit arguments are found by unifying its conclusion with this one, which takes unfolding
-- plain definitions in a metavariable's type
set_option backward.isDefEq.respectTransparency.types false in
/-- The run read at every final buffer: each of the six results ends at what the last boundary's contents hold it at, and
    the arguments end as launched. -/
theorem run_values : θ_run defs (onTc (τ := τ) (main (F := F))) ⟨m, fun _ => 0, ρ⟩ (fun r => ∀ c : Dev nD,
      r.2.mem ((c.tc : Thread nD τ).loc main_v7) = W7 m ρ c (Proc.devRef .tc main_v7)
      ∧ r.2.mem ((c.tc : Thread nD τ).loc main_v8) = W7 m ρ c (Proc.devRef .tc main_v8)
      ∧ r.2.mem ((c.tc : Thread nD τ).loc main_v4_0) = W7 m ρ c (Proc.devRef .tc main_v4_0)
      ∧ r.2.mem ((c.tc : Thread nD τ).loc main_v9) = W7 m ρ c (Proc.devRef .tc main_v9)
      ∧ r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v7 (by decide)),
       h c _ (mem_uc main_v8 (by decide)),
       h c _ (mem_uc main_v4_0 (by decide)),
       h c _ (mem_uc main_v9 (by decide)),
       h c _ (mem_uc main_v10 (by decide)),
       h c _ (mem_uc main_v11 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.Run

end
-- ==== Proof.KernelIdealValue.Spec.lean ====
module

public import proofs.«01_k».proof.Proof.KernelIdealRun.Products
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.SL.Sem

/-! # What each call computes, over the extended reals

The functions the three calls after the smoothing call compute, at any extents, and each stored value read as one of them. -/

/-- The greatest of finitely many extended reals, from −∞. -/
def top {n : Nat} (f : Fin n → EReal) : EReal :=
  Finset.univ.fold max (Ideal.ofBits .f32 0xFF800000#32) f

/-- The magnitude of an extended real. -/
def mag (x : EReal) : EReal := max x (-x)

/-- The step of a symmetric eight-bit quantiser whose group has greatest magnitude `a`: `a / 127`, or 1 where `a` is 0. -/
def scaleOf (a : EReal) : EReal :=
  if a = 0 then 1 else Ideal.div a (Ideal.ofBits .f32 0x42FE0000#32)

/-- The code of a number already divided by its group's step: rounded to nearest even, clipped to ±127, converted. -/
def codeOf (q : EReal) : BitVec 8 :=
  FloatOps.fptosi (F := Ideal) (φ := .f32) 8
    (min (Ideal.ofBits .f32 0x42FE0000#32) (max (Ideal.ofBits .f32 0xC2FE0000#32) (Ideal.liftRound Ideal.roundHalfEven q)))

/-- The integer a code stands for. -/
def intOf (c : BitVec 8) : EReal := FloatOps.sitofp (F := Ideal) FTy.bf16 c

/-- Each column's step for a matrix whose row `k` is multiplied by `s k`. -/
def wScale {n m : Nat} (w : Vec Ideal ⟨2, ![n, m]⟩ .bf16) (s : Vec Ideal ⟨2, ![n, 1]⟩ .f32) : Vec Ideal ⟨2, ![1, m]⟩ .f32 :=
  fun j => scaleOf (top fun k : Fin n => mag (w (ix2 k (j 1)) * s (ix2 k 0)))

/-- Its codes: each entry multiplied by the inverse of its column's step. -/
def wCode {n m : Nat} (w : Vec Ideal ⟨2, ![n, m]⟩ .bf16) (s : Vec Ideal ⟨2, ![n, 1]⟩ .f32) : Vec Ideal ⟨2, ![n, m]⟩ .i8 :=
  fun j => codeOf (w j * s (ix2 (j 0) 0) * Ideal.div 1 (wScale w s (ix2 0 (j 1))))

/-- Each row's step for a matrix whose column `k` is multiplied by `r k`. -/
def xScale {m n : Nat} (x : Vec Ideal ⟨2, ![m, n]⟩ .bf16) (r : Vec Ideal ⟨2, ![1, n]⟩ .f32) : Vec Ideal ⟨2, ![m, 1]⟩ .f32 :=
  fun j => scaleOf (top fun k : Fin n => mag (x (ix2 (j 0) k) * r (ix2 0 k)))

/-- Its codes. -/
def xCode {m n : Nat} (x : Vec Ideal ⟨2, ![m, n]⟩ .bf16) (r : Vec Ideal ⟨2, ![1, n]⟩ .f32) : Vec Ideal ⟨2, ![m, n]⟩ .i8 :=
  fun j => codeOf (x j * r (ix2 0 (j 1)) * Ideal.div 1 (xScale x r (ix2 (j 0) 0)))

/-- The product of two matrices of codes, rows and columns brought back by their steps. -/
def prod {m k n : Nat} (x : Vec Ideal ⟨2, ![m, k]⟩ .i8) (w : Vec Ideal ⟨2, ![k, n]⟩ .i8) (a : Vec Ideal ⟨2, ![m, 1]⟩ .f32)
    (b : Vec Ideal ⟨2, ![1, n]⟩ .f32) : Vec Ideal ⟨2, ![m, n]⟩ .bf16 :=
  fun j => (∑ i : Fin k, intOf (x (ix2 (j 0) i)) * intOf (w (ix2 i (j 1)))) * a (ix2 (j 0) 0) * b (ix2 0 (j 1))

/-! ## Maxima over one axis -/

/-- The maximum over the rows of a matrix. -/
theorem max_axis0 {n m : Nat} (w : FVec Ideal ⟨2, ![n, m]⟩ .f32) (h : Shape.Reduces ⟨2, ![n, m]⟩ [0] ⟨1, ![m]⟩)
    (hφ : FKind.Formats .f32) (hacc : 0xFF800000#32 = FKind.maximumf.neutral .f32 hφ) (j : (⟨1, ![m]⟩ : Shape).Idx) :
    multiReduction (F := Ideal) (φ := .f32) .maximumf [0] ⟨1, ![m]⟩ w 0xFF800000#32 h hφ hacc j
      = top fun k : Fin n => w (ix2 k (j 0)) := by
  rw [Ideal.multiReduction_maximumf_single]
  unfold top
  congr 1
  funext k
  simp only [Function.comp]
  congr 1
  funext i
  match i with
  | 0 => rfl
  | 1 => rfl

/-- The maximum over the columns of a matrix. -/
theorem max_axis1 {n m : Nat} (w : FVec Ideal ⟨2, ![n, m]⟩ .f32) (h : Shape.Reduces ⟨2, ![n, m]⟩ [1] ⟨1, ![n]⟩)
    (hφ : FKind.Formats .f32) (hacc : 0xFF800000#32 = FKind.maximumf.neutral .f32 hφ) (j : (⟨1, ![n]⟩ : Shape).Idx) :
    multiReduction (F := Ideal) (φ := .f32) .maximumf [1] ⟨1, ![n]⟩ w 0xFF800000#32 h hφ hacc j
      = top fun k : Fin m => w (ix2 (j 0) k) := by
  rw [Ideal.multiReduction_maximumf_single]
  unfold top
  congr 1
  funext k
  simp only [Function.comp]
  congr 1
  funext i
  match i with
  | 0 => rfl
  | 1 => rfl

/-- The maximum over the last axis of three. -/
theorem max_axis2 {a n m : Nat} (w : FVec Ideal ⟨3, ![a, n, m]⟩ .f32) (h : Shape.Reduces ⟨3, ![a, n, m]⟩ [2] ⟨2, ![a, n]⟩)
    (hφ : FKind.Formats .f32) (hacc : 0xFF800000#32 = FKind.maximumf.neutral .f32 hφ) (j : (⟨2, ![a, n]⟩ : Shape).Idx) :
    multiReduction (F := Ideal) (φ := .f32) .maximumf [2] ⟨2, ![a, n]⟩ w 0xFF800000#32 h hφ hacc j
      = top fun k : Fin m => w (ix3 (j 0) (j 1) k) := by
  rw [Ideal.multiReduction_maximumf_single]
  unfold top
  congr 1
  funext k
  simp only [Function.comp]
  congr 1
  funext i
  match i with
  | 0 => rfl
  | 1 => rfl
  | 2 => rfl

/-! ## The weights' call -/

theorem k1_pay1_eq (w : Vec Ideal S12288x128 .bf16) (s : Vec Ideal S12288x1 .f32) (j) :
    k1_pay1 w s j = w j * s (ix2 (j 0) 0) := by
  pointwise [k1_pay1]

/-- The step read from a row of maxima. -/
theorem step_row (v : FVec Ideal S128 .f32) (j) :
    select (cmpf .oeq (shapeCast S1x128 v shapeCasts_S128_S1x128) (broadcast S1x128 (Scalar.ofBits (F := Ideal) .f32 0x00000000#32)))
      (broadcast S1x128 (Scalar.ofBits (F := Ideal) .f32 0x3F800000#32))
      (divf (shapeCast S1x128 v shapeCasts_S128_S1x128) (broadcast S1x128 (Scalar.ofBits (F := Ideal) .f32 0x42FE0000#32))) j
      = scaleOf (v (ix1 (j 1))) := by
  unfold scaleOf
  pointwise []

theorem k1_pay2_open (w : Vec Ideal S12288x128 .bf16) (s : Vec Ideal S12288x1 .f32) :
    k1_pay2 w s = fun j => select (cmpf .oeq (shapeCast S1x128 (multiReduction .maximumf [0] S128 (absf (k1_pay1 w s)) 0xFF800000#32 reduces_S12288x128_S128 (.inl rfl) rfl) shapeCasts_S128_S1x128) (broadcast S1x128 (Scalar.ofBits (F := Ideal) .f32 0x00000000#32)))
      (broadcast S1x128 (Scalar.ofBits (F := Ideal) .f32 0x3F800000#32)) (divf (shapeCast S1x128 (multiReduction .maximumf [0] S128 (absf (k1_pay1 w s)) 0xFF800000#32 reduces_S12288x128_S128 (.inl rfl) rfl) shapeCasts_S128_S1x128) (broadcast S1x128 (Scalar.ofBits (F := Ideal) .f32 0x42FE0000#32))) j := rfl

theorem k1_max (v : FVec Ideal S12288x128 .f32) (j : S128.Idx) :
    multiReduction (F := Ideal) (φ := .f32) .maximumf [0] S128 v 0xFF800000#32 reduces_S12288x128_S128 (.inl rfl) rfl j
      = top fun k : Fin 12288 => v (ix2 k (j 0)) := max_axis0 v _ _ _ j

theorem absf_at {s : Shape} (v : FVec Ideal s .f32) (j) : absf v j = mag (v j) := rfl

theorem k1_pay2_eq (w : Vec Ideal S12288x128 .bf16) (s : Vec Ideal S12288x1 .f32) : k1_pay2 w s = wScale w s := by
  rw [k1_pay2_open]
  funext j
  rw [step_row, k1_max]
  unfold wScale
  congr 2
  funext k
  rw [absf_at, k1_pay1_eq]
  rfl

/-- The code from the product and the step. -/
theorem code_w (p : FVec Ideal S12288x128 .f32) (c : FVec Ideal S1x128 .f32) (j) :
    fptosi 8 (minimumf (broadcast S12288x128 (Scalar.ofBits (F := Ideal) .f32 0x42FE0000#32))
      (maximumf (broadcast S12288x128 (Scalar.ofBits (F := Ideal) .f32 0xC2FE0000#32))
        (roundeven (mulf p (broadcastTo S12288x128 (divf (broadcast S1x128 (Scalar.ofBits (F := Ideal) .f32 0x3F800000#32)) c) broadcasts_S1x128_S12288x128))))) j
      = codeOf (p j * Ideal.div 1 (c (ix2 0 (j 1)))) := by
  unfold codeOf
  pointwise []

theorem k1_pay3_open (w : Vec Ideal S12288x128 .bf16) (s : Vec Ideal S12288x1 .f32) :
    k1_pay3 w s = fun j => fptosi 8 (minimumf (broadcast S12288x128 (Scalar.ofBits (F := Ideal) .f32 0x42FE0000#32))
      (maximumf (broadcast S12288x128 (Scalar.ofBits (F := Ideal) .f32 0xC2FE0000#32))
        (roundeven (mulf (k1_pay1 w s) (broadcastTo S12288x128 (divf (broadcast S1x128 (Scalar.ofBits (F := Ideal) .f32 0x3F800000#32)) (k1_pay2 w s)) broadcasts_S1x128_S12288x128))))) j := rfl

theorem k1_pay3_eq (w : Vec Ideal S12288x128 .bf16) (s : Vec Ideal S12288x1 .f32) : k1_pay3 w s = wCode w s := by
  rw [k1_pay3_open]
  funext j
  rw [code_w, k1_pay1_eq, k1_pay2_eq]
  rfl

/-! ## The activations' call -/

theorem k2_pay1_eq (x : Vec Ideal S128x12288 .bf16) (r : Vec Ideal S1x12288 .f32) (j) :
    k2_pay1 x r j = x j * r (ix2 0 (j 1)) := by
  pointwise [k2_pay1]

/-- The step read from a column of maxima. -/
theorem step_col (v : FVec Ideal S128 .f32) (j) :
    select (cmpf .oeq (shapeCast S128x1 v shapeCasts_S128_S128x1) (broadcast S128x1 (Scalar.ofBits (F := Ideal) .f32 0x00000000#32)))
      (broadcast S128x1 (Scalar.ofBits (F := Ideal) .f32 0x3F800000#32))
      (divf (shapeCast S128x1 v shapeCasts_S128_S128x1) (broadcast S128x1 (Scalar.ofBits (F := Ideal) .f32 0x42FE0000#32))) j
      = scaleOf (v (ix1 (j 0))) := by
  unfold scaleOf
  pointwise []

theorem k2_pay2_open (x : Vec Ideal S128x12288 .bf16) (r : Vec Ideal S1x12288 .f32) :
    k2_pay2 x r = fun j => select (cmpf .oeq (shapeCast S128x1 (multiReduction .maximumf [1] S128 (absf (k2_pay1 x r)) 0xFF800000#32 reduces_S128x12288_S128 (.inl rfl) rfl) shapeCasts_S128_S128x1) (broadcast S128x1 (Scalar.ofBits (F := Ideal) .f32 0x00000000#32)))
      (broadcast S128x1 (Scalar.ofBits (F := Ideal) .f32 0x3F800000#32)) (divf (shapeCast S128x1 (multiReduction .maximumf [1] S128 (absf (k2_pay1 x r)) 0xFF800000#32 reduces_S128x12288_S128 (.inl rfl) rfl) shapeCasts_S128_S128x1) (broadcast S128x1 (Scalar.ofBits (F := Ideal) .f32 0x42FE0000#32))) j := rfl

theorem k2_max (v : FVec Ideal S128x12288 .f32) (j : S128.Idx) :
    multiReduction (F := Ideal) (φ := .f32) .maximumf [1] S128 v 0xFF800000#32 reduces_S128x12288_S128 (.inl rfl) rfl j
      = top fun k : Fin 12288 => v (ix2 (j 0) k) := max_axis1 v _ _ _ j

theorem k2_pay2_eq (x : Vec Ideal S128x12288 .bf16) (r : Vec Ideal S1x12288 .f32) : k2_pay2 x r = xScale x r := by
  rw [k2_pay2_open]
  funext j
  rw [step_col, k2_max]
  unfold xScale
  congr 2
  funext k
  rw [absf_at, k2_pay1_eq]
  rfl

/-- The code from the product and the step. -/
theorem code_x (p : FVec Ideal S128x12288 .f32) (c : FVec Ideal S128x1 .f32) (j) :
    fptosi 8 (minimumf (broadcast S128x12288 (Scalar.ofBits (F := Ideal) .f32 0x42FE0000#32))
      (maximumf (broadcast S128x12288 (Scalar.ofBits (F := Ideal) .f32 0xC2FE0000#32))
        (roundeven (mulf p (broadcastTo S128x12288 (divf (broadcast S128x1 (Scalar.ofBits (F := Ideal) .f32 0x3F800000#32)) c) broadcasts_S128x1_S128x12288))))) j
      = codeOf (p j * Ideal.div 1 (c (ix2 (j 0) 0))) := by
  unfold codeOf
  pointwise []

theorem k2_pay3_open (x : Vec Ideal S128x12288 .bf16) (r : Vec Ideal S1x12288 .f32) :
    k2_pay3 x r = fun j => fptosi 8 (minimumf (broadcast S128x12288 (Scalar.ofBits (F := Ideal) .f32 0x42FE0000#32))
      (maximumf (broadcast S128x12288 (Scalar.ofBits (F := Ideal) .f32 0xC2FE0000#32))
        (roundeven (mulf (k2_pay1 x r) (broadcastTo S128x12288 (divf (broadcast S128x1 (Scalar.ofBits (F := Ideal) .f32 0x3F800000#32)) (k2_pay2 x r)) broadcasts_S128x1_S128x12288))))) j := rfl

theorem k2_pay3_eq (x : Vec Ideal S128x12288 .bf16) (r : Vec Ideal S1x12288 .f32) : k2_pay3 x r = xCode x r := by
  rw [k2_pay3_open]
  funext j
  rw [code_x, k2_pay1_eq, k2_pay2_eq]
  rfl

/-! ## The product's call -/

theorem k3_pay1_eq (x : Vec Ideal S512x12288 .i8) (w : Vec Ideal S12288x512 .i8) (a : Vec Ideal S512x1 .f32) (b : Vec Ideal S1x512 .f32) :
    k3_pay1 x w a b = prod x w a b := by
  funext j
  unfold prod intOf
  pointwise [k3_pay1]

end Cert.KernelIdeal.Value

end
-- ==== Proof.KernelIdealValue.Fold.lean ====
module

public import proofs.«01_k».proof.Proof.KernelIdealValue.Spec
public import proofs.«01_k».proof.Proof.KernelIdealRun.Smooth

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! # The smoothing call: the maximum carried from point to point, and the factors it ends in -/

/-- An upper bound of the greatest of finitely many is an upper bound of each. -/
theorem top_le_iff {n : Nat} (f : Fin n → EReal) (u : EReal) : top f ≤ u ↔ ∀ k, f k ≤ u := by
  unfold top
  rw [Finset.fold_max_le]
  have h : Ideal.ofBits .f32 0xFF800000#32 = (⊥ : EReal) := by
    simp [Ideal.ofBits, Ideal.ieee]
  simp [h]

/-- The greatest magnitude over a block's sixteen bands of sixteen rows, per row of a band and column. -/
def bands (b : Vec Ideal S256x12288 .bf16) : FVec Ideal S16x12288 .bf16 :=
  k0_pay1 (k0_pay6 (View.ld b (Rect.unit ![0, 0] ![16, 12288] inb_S256x12288_S16x12288_0_0)) (View.ld b (Rect.unit ![16, 0] ![16, 12288] inb_S256x12288_S16x12288_16_0)) (View.ld b (Rect.unit ![32, 0] ![16, 12288] inb_S256x12288_S16x12288_32_0)) (View.ld b (Rect.unit ![48, 0] ![16, 12288] inb_S256x12288_S16x12288_48_0)) (View.ld b (Rect.unit ![64, 0] ![16, 12288] inb_S256x12288_S16x12288_64_0)) (View.ld b (Rect.unit ![80, 0] ![16, 12288] inb_S256x12288_S16x12288_80_0)) (View.ld b (Rect.unit ![96, 0] ![16, 12288] inb_S256x12288_S16x12288_96_0)) (View.ld b (Rect.unit ![112, 0] ![16, 12288] inb_S256x12288_S16x12288_112_0)) (View.ld b (Rect.unit ![128, 0] ![16, 12288] inb_S256x12288_S16x12288_128_0)) (View.ld b (Rect.unit ![144, 0] ![16, 12288] inb_S256x12288_S16x12288_144_0))) (View.ld b (Rect.unit ![160, 0] ![16, 12288] inb_S256x12288_S16x12288_160_0)) (View.ld b (Rect.unit ![176, 0] ![16, 12288] inb_S256x12288_S16x12288_176_0)) (View.ld b (Rect.unit ![192, 0] ![16, 12288] inb_S256x12288_S16x12288_192_0)) (View.ld b (Rect.unit ![208, 0] ![16, 12288] inb_S256x12288_S16x12288_208_0)) (View.ld b (Rect.unit ![224, 0] ![16, 12288] inb_S256x12288_S16x12288_224_0)) (View.ld b (Rect.unit ![240, 0] ![16, 12288] inb_S256x12288_S16x12288_240_0))

theorem nested_le_iff (g : Fin 16 → EReal) (u : EReal) :
    max (max (max (max (max (max (max (max (max (max (max (max (max (max (max (g 0) (g 1)) (g 2)) (g 3)) (g 4)) (g 5)) (g 6)) (g 7)) (g 8)) (g 9)) (g 10)) (g 11)) (g 12)) (g 13)) (g 14)) (g 15) ≤ u ↔ ∀ q, g q ≤ u := by
  simp only [max_le_iff, and_assoc, Fin.forall_fin_succ, IsEmpty.forall_iff, and_true]
  exact Iff.rfl

/-- The magnitude in row `j 0` of band `q`. -/
def band (b : Vec Ideal S256x12288 .bf16) (j : S16x12288.Idx) (q : Fin 16) : EReal :=
  mag (b (ix2 (⟨16 * q.val + (j 0).val, by have h : (j 0).val < 16 := (j 0).isLt; omega⟩ : Fin 256) (j 1)))

theorem bands_eq (b : Vec Ideal S256x12288 .bf16) (j : S16x12288.Idx) :
    bands b j = (fun g : Fin 16 → EReal => max (max (max (max (max (max (max (max (max (max (max (max (max (max (max (g 0) (g 1)) (g 2)) (g 3)) (g 4)) (g 5)) (g 6)) (g 7)) (g 8)) (g 9)) (g 10)) (g 11)) (g 12)) (g 13)) (g 14)) (g 15)) (band b j) := by
  unfold bands band mag
  pointwise [k0_pay1, k0_pay6]
  rfl

theorem bands_le_iff (b : Vec Ideal S256x12288 .bf16) (j : S16x12288.Idx) (u : EReal) :
    (bands b j : EReal) ≤ u ↔ ∀ q : Fin 16, band b j q ≤ u := by
  rw [bands_eq]
  exact nested_le_iff _ u

theorem k0_pay3_at (v38 v39 v43 v47 v51 v55 v59 v72 : Vec Ideal S16x12288 .bf16) (j) :
    k0_pay3 (F := Ideal) v38 v39 v43 v47 v51 v55 v59 v72 j = max (v72 j) (k0_pay1 v38 v39 v43 v47 v51 v55 v59 j) := by
  unfold k0_pay3
  rw [shapeCast_self]
  rfl

theorem scratch_first (c : Dev nD) (t : Fin cfg0.N) (h0 : t.val % 64 = 0) (h1 : ¬1 ≤ t.val) (h2 : ¬t.val % 64 = 63) :
    (outsAt0 V c t.val t.isLt).2.2 = bands (iblk0 V c 0 t) := by
  rw [outsAt0_A V c t h0 h1 h2]
  dsimp only
  funext j
  frame_out
  unfold k0_pay2 bands
  rw [shapeCast_self]

theorem scratch_next (c : Dev nD) (t : Fin cfg0.N) (h0 : ¬t.val % 64 = 0) (h1 : 1 ≤ t.val) (h2 : ¬t.val % 64 = 63) (j : S16x12288.Idx) :
    (outsAt0 V c t.val t.isLt).2.2 j
      = max ((outsAt0 V c (t.val - 1) (Nat.lt_of_le_of_lt (Nat.sub_le _ _) t.isLt)).2.2 j) (bands (iblk0 V c 0 t) j) := by
  rw [outsAt0_B V c t h0 h1 h2]
  dsimp only
  frame_out
  rw [k0_pay3_at]
  unfold bands
  congr 1
  exact congrFun (Memref.IsWhole.read_unread (Memref.isWhole_whole cc0_scratch0) _) j

/-- What the last point has accumulated, before the factors are read from it. -/
def acc (c : Dev nD) (t : Fin cfg0.N) : FVec Ideal S16x12288 .bf16 := fun j =>
  max ((outsAt0 V c (t.val - 1) (Nat.lt_of_le_of_lt (Nat.sub_le _ _) t.isLt)).2.2 j) (bands (iblk0 V c 0 t) j)

theorem factors_last (c : Dev nD) (t : Fin cfg0.N) (h0 : ¬t.val % 64 = 0) (h1 : 1 ≤ t.val) (h2 : t.val % 64 = 63) :
    (outsAt0 V c t.val t.isLt).1 = k0_pay4 (acc V c t) (iblk0 V c 1 t) := by
  rw [outsAt0_C V c t h0 h1 h2]
  dsimp only
  funext j
  frame_out
  congr 1
  congr 1
  funext i
  rw [k0_pay3_at]
  unfold acc bands
  congr 1
  exact congrFun (Memref.IsWhole.read_unread (Memref.isWhole_whole cc0_scratch0) _) i

theorem inverses_last (c : Dev nD) (t : Fin cfg0.N) (h0 : ¬t.val % 64 = 0) (h1 : 1 ≤ t.val) (h2 : t.val % 64 = 63) :
    (outsAt0 V c t.val t.isLt).2.1 = k0_pay5 (acc V c t) (iblk0 V c 1 t) := by
  rw [outsAt0_C V c t h0 h1 h2]
  dsimp only
  funext j
  frame_out
  congr 1
  congr 1
  funext i
  rw [k0_pay3_at]
  unfold acc bands
  congr 1
  exact congrFun (Memref.IsWhole.read_unread (Memref.isWhole_whole cc0_scratch0) _) i

/-- After point `n` (before the last) the scratch holds, per row of a band and column, the greatest magnitude of the rows of the
    blocks so far that the row of the band stands for. -/
theorem scratch_le_iff (c : Dev nD) (n : Nat) (hn : n < cfg0.N) (hl : n < 63) (j : S16x12288.Idx) (u : EReal) :
    ((outsAt0 V c n hn).2.2 j : EReal) ≤ u ↔ ∀ t (ht : t ≤ n), (bands (iblk0 V c 0 ⟨t, Nat.lt_of_le_of_lt ht hn⟩) j : EReal) ≤ u := by
  induction n with
  | zero =>
    have e := scratch_first V c ⟨0, hn⟩ rfl (by simp) (by simp)
    dsimp only at e
    rw [e]
    constructor
    · intro h t ht
      obtain rfl : t = 0 := by omega
      exact h
    · intro h
      exact h 0 le_rfl
  | succ n ih =>
    have e : (outsAt0 V c (n + 1) hn).2.2 j = max ((outsAt0 V c n (Nat.lt_of_succ_lt hn)).2.2 j) (bands (iblk0 V c 0 ⟨n + 1, hn⟩) j) :=
      scratch_next V c ⟨n + 1, hn⟩ (by dsimp only; omega) (by dsimp only; omega) (by dsimp only; omega) j
    rw [e]
    refine max_le_iff.trans ?_
    rw [ih (Nat.lt_of_succ_lt hn) (by omega)]
    constructor
    · rintro ⟨ha, hb⟩ t ht
      rcases Nat.lt_or_ge t (n + 1) with h | h
      · exact ha t (by omega)
      · obtain rfl : t = n + 1 := by omega
        exact hb
    · intro h
      exact ⟨fun t ht => h t (by omega), h (n + 1) le_rfl⟩

/-- The smoothing factor of each column: the square root of the activations' greatest magnitude over that of the weights', both
    kept from falling under the least admitted. -/
def sOf {n : Nat} (x : Vec Ideal ⟨2, ![n, 12288]⟩ .bf16) (w : Vec Ideal S1x12288 .f32) : Vec Ideal S1x12288 .f32 := fun j =>
  Ideal.div (Ideal.sqrt (max (top fun i : Fin n => mag (x (ix2 i (j 1)))) (Ideal.ofBits .f32 0x3727C5AC#32)))
    (Ideal.sqrt (max (w j) (Ideal.ofBits .f32 0x3727C5AC#32)))

theorem k0_pay4_at (x : Vec Ideal S16x12288 .bf16) (w : Vec Ideal S1x12288 .f32) (j) :
    k0_pay4 x w j = Ideal.div (Ideal.sqrt (max (top fun r : Fin 16 => x (ix2 r (j 1))) (Ideal.ofBits .f32 0x3727C5AC#32)))
      (Ideal.sqrt (max (w j) (Ideal.ofBits .f32 0x3727C5AC#32))) := by
  unfold top
  pointwise [k0_pay4]

theorem k0_pay5_at (x : Vec Ideal S16x12288 .bf16) (w : Vec Ideal S1x12288 .f32) (j) :
    k0_pay5 x w j = Ideal.div 1 (k0_pay4 x w j) := by
  unfold k0_pay5
  generalize k0_pay4 x w = v
  pointwise []

theorem idx0 : ∀ t : Fin cfg0.N, win0_0.index t = ![t.val, 0] ∧ win0_1.index t = ![0, 0] ∧ win0_2.index t = ![0, 0] ∧ win0_3.index t = ![0, 0] :=
  (by decide +kernel : ∀ t : Fin grid0.N, _)

/-- A block's entry is the array's, `256 t` rows down. -/
theorem block_at (c : Dev nD) (t : Fin cfg0.N) (r : Fin 256) (k : Fin 12288) (i : Fin 16384) (hi : i.val = 256 * t.val + r.val) :
    (iblk0 V c 0 t : Vec Ideal S256x12288 .bf16) (ix2 r k) = (V c main_v0 : Vec Ideal S16384x12288 .bf16) (ix2 i k) := by
  blk_ext [iblk0, idx0 t]

theorem row_at (c : Dev nD) (t : Fin cfg0.N) : (iblk0 V c 1 t : Vec Ideal S1x12288 .f32) = V c main_v1 := by
  funext j
  blk_ext [iblk0, idx0 t]

theorem acc_le_iff (c : Dev nD) (n : Nat) (hn : n + 1 < cfg0.N) (hl : n < 63) (j : S16x12288.Idx) (u : EReal) :
    (acc V c ⟨n + 1, hn⟩ j : EReal) ≤ u ↔ ∀ t (ht : t ≤ n + 1), (bands (iblk0 V c 0 ⟨t, Nat.lt_of_le_of_lt ht hn⟩) j : EReal) ≤ u := by
  have e : acc V c ⟨n + 1, hn⟩ j = max ((outsAt0 V c n (Nat.lt_of_succ_lt hn)).2.2 j) (bands (iblk0 V c 0 ⟨n + 1, hn⟩) j) := rfl
  rw [e]
  refine max_le_iff.trans ?_
  rw [scratch_le_iff V c n (Nat.lt_of_succ_lt hn) hl]
  constructor
  · rintro ⟨ha, hb⟩ t ht
    rcases Nat.lt_or_ge t (n + 1) with h | h
    · exact ha t (by omega)
    · obtain rfl : t = n + 1 := by omega
      exact hb
  · intro h
    exact ⟨fun t ht => h t (by omega), h (n + 1) le_rfl⟩

theorem last_lt : 63 < cfg0.N := by decide

/-- The last point. -/
def tLast : Fin cfg0.N := ⟨62 + 1, last_lt⟩

/-- What the last point has accumulated is the greatest magnitude over all rows. -/
theorem acc_top (c : Dev nD) (k : Fin 12288) :
    (top fun r : Fin 16 => acc V c tLast (ix2 r k)) = top fun i : Fin 16384 => mag ((V c main_v0 : Vec Ideal S16384x12288 .bf16) (ix2 i k)) := by
  refine eq_of_forall_ge_iff fun u => ?_
  rw [top_le_iff, top_le_iff]
  have h1 : ∀ r : Fin 16, (acc V c tLast (ix2 r k) : EReal) ≤ u ↔
      ∀ t (ht : t ≤ 62 + 1), (bands (iblk0 V c 0 ⟨t, Nat.lt_of_le_of_lt ht last_lt⟩) (ix2 r k) : EReal) ≤ u :=
    fun r => acc_le_iff V c 62 last_lt (by omega) (ix2 r k) u
  have h2 : ∀ (r : Fin 16) t (ht : t ≤ 62 + 1) (q : Fin 16) (i : Fin 16384) (hi : i.val = 256 * t + (16 * q.val + r.val)),
      band (iblk0 V c 0 ⟨t, Nat.lt_of_le_of_lt ht last_lt⟩) (ix2 r k) q = mag ((V c main_v0 : Vec Ideal S16384x12288 .bf16) (ix2 i k)) := by
    intro r t ht q i hi
    exact congrArg mag (block_at V c ⟨t, _⟩ _ k i hi)
  constructor
  · intro h i
    have hr := (h1 ⟨i.val % 16, by omega⟩).mp (h _) (i.val / 256) (by omega)
    have hq := (bands_le_iff _ _ u).mp hr ⟨i.val % 256 / 16, by omega⟩
    rw [h2 _ _ (by omega) _ i (by dsimp only; omega)] at hq
    exact hq
  · intro h r
    refine (h1 r).mpr fun t ht => (bands_le_iff _ _ u).mpr fun q => ?_
    rw [h2 r t ht q ⟨256 * t + (16 * q.val + r.val), by omega⟩ rfl]
    exact h _

theorem k0_pay4_of_top (x : Vec Ideal S16x12288 .bf16) (w : Vec Ideal S1x12288 .f32) (A : Fin 12288 → EReal)
    (h : ∀ k, (top fun r : Fin 16 => x (ix2 r k)) = A k) :
    k0_pay4 x w = fun j => Ideal.div (Ideal.sqrt (max (A (j 1)) (Ideal.ofBits .f32 0x3727C5AC#32)))
      (Ideal.sqrt (max (w j) (Ideal.ofBits .f32 0x3727C5AC#32))) := by
  funext j
  rw [k0_pay4_at]
  have e := h (j 1)
  exact congrArg (fun a => Ideal.div (Ideal.sqrt (max a (Ideal.ofBits .f32 0x3727C5AC#32))) (Ideal.sqrt (max (w j) (Ideal.ofBits .f32 0x3727C5AC#32)))) e

theorem factors_pay (c : Dev nD) :
    k0_pay4 (acc V c tLast) (iblk0 V c 1 tLast) = sOf (n := 16384) (V c main_v0) (V c main_v1) := by
  rw [row_at]
  exact k0_pay4_of_top _ _ (fun k => top fun i : Fin 16384 => mag ((V c main_v0 : Vec Ideal S16384x12288 .bf16) (ix2 i k))) (acc_top V c)

theorem inverses_pay (c : Dev nD) :
    k0_pay5 (acc V c tLast) (iblk0 V c 1 tLast) = fun j => Ideal.div 1 (sOf (n := 16384) (V c main_v0) (V c main_v1) j) := by
  funext j
  rw [k0_pay5_at, factors_pay]

/-- The factors, whole. -/
theorem factors (c : Dev nD) : (dat0 V c).arrAt 2 cfg0.N = sOf (n := 16384) (V c main_v0) (V c main_v1) := by
  refine (dat0 V c).arrAt_eq_of_after_last 2 tLast (by decide +kernel) _ fun j => ?_
  blk_simp
  rw [after0_2, factors_last V c tLast (by decide) (by decide) (by decide), factors_pay]

/-- Their inverses, whole. -/
theorem inverses (c : Dev nD) : (dat0 V c).arrAt 3 cfg0.N = fun j => Ideal.div 1 (sOf (n := 16384) (V c main_v0) (V c main_v1) j) := by
  refine (dat0 V c).arrAt_eq_of_after_last 3 tLast (by decide +kernel) _ fun j => ?_
  blk_simp
  rw [after0_3, inverses_last V c tLast (by decide) (by decide) (by decide), inverses_pay]

end Cert.KernelIdeal.Value

end
-- ==== Proof.KernelIdealValue.Arrays.lean ====
module

public import proofs.«01_k».proof.Proof.KernelIdealValue.Spec

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! # The three tiled calls' result arrays, whole -/

theorem idx1 : ∀ t : Fin cfg1.N, win1_0.index t = ![0, t.val] ∧ win1_1.index t = ![0, 0] ∧ win1_2.index t = ![0, t.val] ∧ win1_3.index t = ![0, t.val] :=
  (by decide +kernel : ∀ t : Fin grid1.N, _)

theorem idx2 : ∀ t : Fin cfg2.N, win2_0.index t = ![t.val, 0] ∧ win2_1.index t = ![0, 0] ∧ win2_2.index t = ![t.val, 0] ∧ win2_3.index t = ![t.val, 0] :=
  (by decide +kernel : ∀ t : Fin grid2.N, _)

theorem idx3 : ∀ t : Fin cfg3.N, win3_0.index t = ![t.val / 5, 0] ∧ win3_1.index t = ![0, t.val % 5] ∧ win3_2.index t = ![t.val / 5, 0] ∧ win3_3.index t = ![0, t.val % 5] ∧ win3_4.index t = ![t.val / 5, t.val % 5] :=
  (by decide +kernel : ∀ t : Fin grid3.N, _)

/-- The weights' codes. -/
theorem codes_w (c : Dev nD) : (dat1 V c).arrAt 2 cfg1.N = wCode (n := 12288) (m := 2560) (V c main_arg1) (V c main_v3) := by
  refine (dat1 V c).arrAt_eq_of_covers 2 _ (by decide +kernel) fun t hf y => ?_
  blk_simp
  rw [after1_2]
  frame_out
  rw [k1_pay3_eq]
  unfold wCode wScale
  blk_point [iblk1, idx1 t]

/-- The weights' steps. -/
theorem steps_w (c : Dev nD) : (dat1 V c).arrAt 3 cfg1.N = wScale (n := 12288) (m := 2560) (V c main_arg1) (V c main_v3) := by
  refine (dat1 V c).arrAt_eq_of_covers 3 _ (by decide +kernel) fun t hf y => ?_
  blk_simp
  rw [after1_3]
  frame_out
  rw [k1_pay2_eq]
  unfold wScale
  blk_point [iblk1, idx1 t]

/-- The activations' codes. -/
theorem codes_x (c : Dev nD) : (dat2 V c).arrAt 2 cfg2.N = xCode (m := 16384) (n := 12288) (V c main_v0) (V c main_v2_1) := by
  refine (dat2 V c).arrAt_eq_of_covers 2 _ (by decide +kernel) fun t hf y => ?_
  blk_simp
  rw [after2_2]
  frame_out
  rw [k2_pay3_eq]
  unfold xCode xScale
  blk_point [iblk2, idx2 t]

/-- The activations' steps. -/
theorem steps_x (c : Dev nD) : (dat2 V c).arrAt 3 cfg2.N = xScale (m := 16384) (n := 12288) (V c main_v0) (V c main_v2_1) := by
  refine (dat2 V c).arrAt_eq_of_covers 3 _ (by decide +kernel) fun t hf y => ?_
  blk_simp
  rw [after2_3]
  frame_out
  rw [k2_pay2_eq]
  unfold xScale
  blk_point [iblk2, idx2 t]

/-- The product. -/
theorem product (c : Dev nD) : (dat3 V c).arrAt 4 cfg3.N
    = prod (m := 16384) (k := 12288) (n := 2560) (V c main_v5_0) (V c main_v4_0) (V c main_v5_1) (V c main_v4_1) := by
  refine (dat3 V c).arrAt_eq_of_covers 4 _ (by decide +kernel) fun t hf y => ?_
  blk_simp
  rw [after3_4]
  frame_out
  rw [k3_pay1_eq]
  unfold prod
  blk_point [iblk3, idx3 t]

end Cert.KernelIdeal.Value

end
-- ==== Proof.KernelIdealValue.Chain.lean ====
module

public import proofs.«01_k».proof.Proof.KernelIdealValue.Fold
public import proofs.«01_k».proof.Proof.KernelIdealValue.Arrays
public import proofs.«01_k».proof.Proof.KernelIdealRun.Launch

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! # Every result of the kernel, as a function of its arguments -/

/-- The activations as a matrix of tokens. -/
def kX (x : Vec Ideal S2x8192x12288 .bf16) : Vec Ideal S16384x12288 .bf16 := shapeCast S16384x12288 x shapeCasts_S2x8192x12288_S16384x12288
/-- The smoothing factors, in a row. -/
def kS (x : Vec Ideal S2x8192x12288 .bf16) (a : Vec Ideal S12288 .f32) : Vec Ideal S1x12288 .f32 :=
  sOf (n := 16384) (kX x) (shapeCast S1x12288 a shapeCasts_S12288_S1x12288)
/-- Their inverses. -/
def kR (x : Vec Ideal S2x8192x12288 .bf16) (a : Vec Ideal S12288 .f32) : Vec Ideal S1x12288 .f32 := fun j => Ideal.div 1 (kS x a j)
/-- The factors, in a column. -/
def kC (x : Vec Ideal S2x8192x12288 .bf16) (a : Vec Ideal S12288 .f32) : Vec Ideal S12288x1 .f32 := shapeCast S12288x1 (kS x a) shapeCasts_S1x12288_S12288x1

/-- The activations' codes and steps; the weights' codes and steps; the product. -/
def kXC (x : Vec Ideal S2x8192x12288 .bf16) (a : Vec Ideal S12288 .f32) : Vec Ideal S16384x12288 .i8 := xCode (kX x) (kR x a)
@[inherit_doc kXC]
def kXS (x : Vec Ideal S2x8192x12288 .bf16) (a : Vec Ideal S12288 .f32) : Vec Ideal S16384x1 .f32 := xScale (kX x) (kR x a)
@[inherit_doc kXC]
def kWC (x : Vec Ideal S2x8192x12288 .bf16) (w : Vec Ideal S12288x2560 .bf16) (a : Vec Ideal S12288 .f32) : Vec Ideal S12288x2560 .i8 := wCode w (kC x a)
@[inherit_doc kXC]
def kWS (x : Vec Ideal S2x8192x12288 .bf16) (w : Vec Ideal S12288x2560 .bf16) (a : Vec Ideal S12288 .f32) : Vec Ideal S1x2560 .f32 := wScale w (kC x a)
@[inherit_doc kXC]
def kY (x : Vec Ideal S2x8192x12288 .bf16) (w : Vec Ideal S12288x2560 .bf16) (a : Vec Ideal S12288 .f32) : Vec Ideal S16384x2560 .bf16 :=
  prod (kXC x a) (kWC x w a) (kXS x a) (kWS x w a)

variable (c : Dev nD)

/-- The activations, the weights and the weights' column maxima at the launch. -/
abbrev argX : Vec Ideal S2x8192x12288 .bf16 := m ((c : Thread nD τ).loc main_arg0)
@[inherit_doc argX]
abbrev argW : Vec Ideal S12288x2560 .bf16 := m ((c : Thread nD τ).loc main_arg1)
@[inherit_doc argX]
abbrev argA : Vec Ideal S12288 .f32 := m ((c : Thread nD τ).loc main_arg2)

theorem W1_v0 : W1 m ρ c (Proc.devRef .tc main_v0) = kX (argX m c) := by
  unfold_abbrev_sides
  after_results
  rfl

theorem W1_v1 : W1 m ρ c (Proc.devRef .tc main_v1) = shapeCast S1x12288 (argA m c) shapeCasts_S12288_S1x12288 := by
  unfold_abbrev_sides
  after_results
  rfl

theorem W2_v2_0 : W2 m ρ c (Proc.devRef .tc main_v2_0) = kS (argX m c) (argA m c) := by
  refine (W2_arr m ρ c 2).trans ((factors (V1 m ρ) c).trans ?_)
  unfold kS
  rw [← W1_v0 m ρ c, ← W1_v1 m ρ c]

theorem W2_v2_1 : W2 m ρ c (Proc.devRef .tc main_v2_1) = kR (argX m c) (argA m c) := by
  refine (W2_arr m ρ c 3).trans ((inverses (V1 m ρ) c).trans ?_)
  unfold kR kS
  rw [← W1_v0 m ρ c, ← W1_v1 m ρ c]

theorem W3_v3 : W3 m ρ c (Proc.devRef .tc main_v3) = kC (argX m c) (argA m c) := by
  unfold kC
  rw [← W2_v2_0 m ρ c]
  unfold_abbrev_sides
  after_results
  rfl

theorem W3_arg1 : W3 m ρ c (Proc.devRef .tc main_arg1) = argW m c := W3_args m ρ c main_arg1 (by decide)

theorem W4_v4_0 : W4 m ρ c (Proc.devRef .tc main_v4_0) = kWC (argX m c) (argW m c) (argA m c) := by
  refine (W4_arr m ρ c 2).trans ((codes_w (V3 m ρ) c).trans ?_)
  unfold kWC
  rw [← W3_v3 m ρ c, ← W3_arg1 m ρ c]

theorem W4_v4_1 : W4 m ρ c (Proc.devRef .tc main_v4_1) = kWS (argX m c) (argW m c) (argA m c) := by
  refine (W4_arr m ρ c 3).trans ((steps_w (V3 m ρ) c).trans ?_)
  unfold kWS
  rw [← W3_v3 m ρ c, ← W3_arg1 m ρ c]

theorem W4_v0 : W4 m ρ c (Proc.devRef .tc main_v0) = kX (argX m c) :=
  (W4_of m ρ c main_v0 (by decide +kernel)).trans ((W3_of m ρ c main_v0 (by decide +kernel)).trans
    ((W2_of m ρ c main_v0 (by decide +kernel)).trans (W1_v0 m ρ c)))

theorem W4_v2_1 : W4 m ρ c (Proc.devRef .tc main_v2_1) = kR (argX m c) (argA m c) :=
  (W4_of m ρ c main_v2_1 (by decide +kernel)).trans ((W3_of m ρ c main_v2_1 (by decide +kernel)).trans (W2_v2_1 m ρ c))

theorem W5_v5_0 : W5 m ρ c (Proc.devRef .tc main_v5_0) = kXC (argX m c) (argA m c) := by
  refine (W5_arr m ρ c 2).trans ((codes_x (V4 m ρ) c).trans ?_)
  unfold kXC
  rw [← W4_v0 m ρ c, ← W4_v2_1 m ρ c]

theorem W5_v5_1 : W5 m ρ c (Proc.devRef .tc main_v5_1) = kXS (argX m c) (argA m c) := by
  refine (W5_arr m ρ c 3).trans ((steps_x (V4 m ρ) c).trans ?_)
  unfold kXS
  rw [← W4_v0 m ρ c, ← W4_v2_1 m ρ c]

theorem W5_v4_0 : W5 m ρ c (Proc.devRef .tc main_v4_0) = kWC (argX m c) (argW m c) (argA m c) :=
  (W5_of m ρ c main_v4_0 (by decide +kernel)).trans (W4_v4_0 m ρ c)

theorem W5_v4_1 : W5 m ρ c (Proc.devRef .tc main_v4_1) = kWS (argX m c) (argW m c) (argA m c) :=
  (W5_of m ρ c main_v4_1 (by decide +kernel)).trans (W4_v4_1 m ρ c)

theorem W6_v6 : W6 m ρ c (Proc.devRef .tc main_v6) = kY (argX m c) (argW m c) (argA m c) := by
  refine (W6_arr m ρ c 4).trans ((product (V5 m ρ) c).trans ?_)
  unfold kY
  rw [← W5_v5_0 m ρ c, ← W5_v5_1 m ρ c, ← W5_v4_0 m ρ c, ← W5_v4_1 m ρ c]

theorem W6_v2_0 : W6 m ρ c (Proc.devRef .tc main_v2_0) = kS (argX m c) (argA m c) :=
  (W6_of m ρ c main_v2_0 (by decide +kernel)).trans ((W5_of m ρ c main_v2_0 (by decide +kernel)).trans
    ((W4_of m ρ c main_v2_0 (by decide +kernel)).trans ((W3_of m ρ c main_v2_0 (by decide +kernel)).trans (W2_v2_0 m ρ c))))

theorem W6_v4_0 : W6 m ρ c (Proc.devRef .tc main_v4_0) = kWC (argX m c) (argW m c) (argA m c) :=
  (W6_of m ρ c main_v4_0 (by decide +kernel)).trans (W5_v4_0 m ρ c)

theorem W6_v4_1 : W6 m ρ c (Proc.devRef .tc main_v4_1) = kWS (argX m c) (argW m c) (argA m c) :=
  (W6_of m ρ c main_v4_1 (by decide +kernel)).trans (W5_v4_1 m ρ c)

theorem W6_v5_0 : W6 m ρ c (Proc.devRef .tc main_v5_0) = kXC (argX m c) (argA m c) :=
  (W6_of m ρ c main_v5_0 (by decide +kernel)).trans (W5_v5_0 m ρ c)

theorem W6_v5_1 : W6 m ρ c (Proc.devRef .tc main_v5_1) = kXS (argX m c) (argA m c) :=
  (W6_of m ρ c main_v5_1 (by decide +kernel)).trans (W5_v5_1 m ρ c)

/-! ## The six results -/

theorem W7_v7 : W7 m ρ c (Proc.devRef .tc main_v7) = shapeCast S2x8192x2560 (kY (argX m c) (argW m c) (argA m c)) shapeCasts_S16384x2560_S2x8192x2560 := by
  rw [← W6_v6 m ρ c]
  unfold_abbrev_sides
  after_results
  rfl

theorem W7_v8 : W7 m ρ c (Proc.devRef .tc main_v8) = shapeCast S12288 (kS (argX m c) (argA m c)) shapeCasts_S1x12288_S12288 := by
  rw [← W6_v2_0 m ρ c]
  unfold_abbrev_sides
  after_results
  rfl

theorem W7_v4_0 : W7 m ρ c (Proc.devRef .tc main_v4_0) = kWC (argX m c) (argW m c) (argA m c) :=
  (W7_of m ρ c main_v4_0 (by decide +kernel)).trans (W6_v4_0 m ρ c)

theorem W7_v9 : W7 m ρ c (Proc.devRef .tc main_v9) = shapeCast S2560 (kWS (argX m c) (argW m c) (argA m c)) shapeCasts_S1x2560_S2560 := by
  rw [← W6_v4_1 m ρ c]
  unfold_abbrev_sides
  after_results
  rfl

theorem W7_v10 : W7 m ρ c (Proc.devRef .tc main_v10) = shapeCast S2x8192x12288 (kXC (argX m c) (argA m c)) shapeCasts_S16384x12288_S2x8192x12288 := by
  rw [← W6_v5_0 m ρ c]
  unfold_abbrev_sides
  after_results
  rfl

theorem W7_v11 : W7 m ρ c (Proc.devRef .tc main_v11) = shapeCast S2x8192 (kXS (argX m c) (argA m c)) shapeCasts_S16384x1_S2x8192 := by
  rw [← W6_v5_1 m ρ c]
  unfold_abbrev_sides
  after_results
  rfl

end Cert.KernelIdeal.Value

end
-- ==== Proof.KernelIdealValue.Scalar.lean ====
module

public import proofs.«01_k».proof.Proof.KernelIdealValue.Fold

@[expose] public section

noncomputable section

namespace Cert.KernelIdeal.Value

open Idealize.ShloMosaic Idealize.ShloMosaic.TcCoe Idealize.SL.Sem

/-! # The arithmetic the two sides differ in

A square root against a power of one half; a product with an inverse against a quotient. -/

/-- The least value either maximum is kept from falling under. -/
abbrev least : EReal := Ideal.ofBits .f32 0x3727C5AC#32

theorem least_real : ∃ r : ℝ, 0 < r ∧ least = (r : EReal) := by
  refine ⟨10995116 / 1099511627776, by norm_num, ?_⟩
  simp [least, Ideal.ofBits, Ideal.ieee, -EReal.coe_mul]
  norm_num

theorem least_pos : (0 : EReal) < least := by
  obtain ⟨r, h, e⟩ := least_real
  rw [e]
  exact EReal.coe_pos.mpr h

theorem half_real : Ideal.ofBits .f32 0x3F000000#32 = ((1 / 2 : ℝ) : EReal) := by
  simp [Ideal.ofBits, Ideal.ieee, -EReal.coe_mul]
  norm_num

theorem level_real : Ideal.ofBits .f32 0x42FE0000#32 = ((127 : ℝ) : EReal) := by
  simp [Ideal.ofBits, Ideal.ieee, -EReal.coe_mul]
  norm_num

/-- The square root is the power of one half, of anything positive. -/
theorem sqrt_eq_pow (v : EReal) (h : 0 < v) : Ideal.sqrt v = Ideal.pow v (Ideal.ofBits .f32 0x3F000000#32) := by
  rw [half_real]
  induction v with
  | bot => exact absurd h (by simp)
  | top =>
    show (⊤ : EReal) = if (0 : EReal) < ((1 / 2 : ℝ) : EReal) then ⊤ else _
    rw [if_pos (EReal.coe_pos.mpr (by norm_num))]
  | coe r =>
    have hr : 0 < r := EReal.coe_pos.mp h
    show (if r < 0 then ⊥ else (Real.sqrt r : EReal)) = ((Real.rpow r (1 / 2) : ℝ) : EReal)
    rw [if_neg (not_lt.mpr hr.le), Real.sqrt_eq_rpow]
    rfl

theorem sqrt_pos (v : EReal) (h : 0 < v) : 0 < Ideal.sqrt v := by
  induction v with
  | bot => exact absurd h (by simp)
  | top => exact EReal.zero_lt_top
  | coe r =>
    have hr : 0 < r := EReal.coe_pos.mp h
    show 0 < (if r < 0 then ⊥ else (Real.sqrt r : EReal))
    rw [if_neg (not_lt.mpr hr.le)]
    exact EReal.coe_pos.mpr (Real.sqrt_pos.mpr hr)

theorem sqrt_lt_top (v : EReal) (h : v < ⊤) : Ideal.sqrt v < ⊤ := by
  induction v with
  | bot => exact bot_lt_top
  | top => exact absurd h (by simp)
  | coe r =>
    show (if r < 0 then ⊥ else (Real.sqrt r : EReal)) < ⊤
    split
    · exact bot_lt_top
    · exact EReal.coe_lt_top _

/-- A quotient of a positive by a positive that is not +∞ is not zero. -/
theorem div_ne_zero_of_pos (x y : EReal) (hx : 0 < x) (hy : 0 < y) (hy' : y < ⊤) : Ideal.div x y ≠ 0 := by
  unfold Ideal.div
  rw [if_neg hy.ne']
  have hi : 0 < y⁻¹ := EReal.inv_pos_of_pos_ne_top hy hy'.ne
  exact (EReal.mul_pos hx hi).ne'

/-- A product with the inverse of what is not zero is the quotient. -/
theorem mul_inv_eq_div (x s : EReal) (h : s ≠ 0) : x * Ideal.div 1 s = Ideal.div x s := by
  unfold Ideal.div
  rw [if_neg h, if_neg h, one_mul]

/-- A quantiser's step is never zero. -/
theorem scaleOf_ne_zero (a : EReal) : scaleOf a ≠ 0 := by
  unfold scaleOf
  split
  · exact one_ne_zero
  · rename_i h
    rw [level_real]
    unfold Ideal.div
    have h7 : ((127 : ℝ) : EReal) ≠ 0 := by
      rw [← EReal.coe_zero]
      exact fun e => by
        have := EReal.coe_injective e
        norm_num at this
    rw [if_neg h7]
    refine mul_ne_zero h ?_
    rw [← EReal.coe_inv, ← EReal.coe_zero]
    exact fun e => by
      have := EReal.coe_injective e
      norm_num at this

/-- Two greatest values over different families agree where the families have the same upper bounds. -/
theorem eq_top_of_le_iff {n : Nat} (f : Fin n → EReal) (y : EReal) (h : ∀ u, y ≤ u ↔ ∀ k, f k ≤ u) : y = top f :=
  le_antisymm ((h _).mpr ((top_le_iff f _).mp le_rfl)) ((top_le_iff f _).mpr ((h _).mp le_rfl))

end Cert.KernelIdeal.Value

end
-- ==== Proof.KernelIdealValue.Reading.lean ====
module

public import proofs.«01_k».proof.Proof.KernelIdealValue.Scalar
public import proofs.«01_k».proof.Proof.Gen.ReferenceIdeal.Value

@[expose] public section

set_option maxRecDepth 16384

noncomputable section

namespace Cert.ReferenceIdeal.Reading

open Cert.ReferenceIdeal Cert.ReferenceIdeal.Gen
open Cert.KernelIdeal.Value (top mag scaleOf codeOf intOf max_axis0 max_axis2 eq_top_of_le_iff least)
open Idealize.ShloMosaic Idealize.ShloMosaic.TcCoe Idealize.SL.Sem

/-! # The reference's values, each read at an index -/

/-- The maximum over the first two of three axes, by its upper bounds. -/
theorem max_axes01 (v : FVec Ideal S2x8192x12288 .f32) (h : S2x8192x12288.Reduces [0, 1] S12288)
    (hφ : FKind.Formats .f32) (hacc : 0xFF800000#32 = FKind.maximumf.neutral .f32 hφ) (j : S12288.Idx) (u : EReal) :
    (multiReduction (F := Ideal) (φ := .f32) .maximumf [0, 1] S12288 v 0xFF800000#32 h hφ hacc j : EReal) ≤ u
      ↔ ∀ (b : Fin 2) (t : Fin 8192), (v (ix3 b t (j 0)) : EReal) ≤ u := by
  rw [multiReduction_maximumf_eq_fold]
  refine (Finset.fold_max_le (s := Finset.univ.filter fun i => h.drop i = j) (f := v) (b := Ideal.ofBits .f32 0xFF800000#32) u).trans ?_
  have h0 : Ideal.ofBits .f32 0xFF800000#32 = (⊥ : EReal) := by
    simp [Ideal.ofBits, Ideal.ieee]
  constructor
  · rintro ⟨-, H⟩ b t
    refine H _ (Finset.mem_filter.mpr ⟨Finset.mem_univ _, ?_⟩)
    funext q
    match q with
    | 0 => exact Fin.ext (h.drop_apply_val_of_eq (ix3 b t (j 0)) 0 2)
  · intro H
    refine ⟨by rw [show Ideal.ofBits .f32 0xFF800000#32 = (⊥ : EReal) from h0]; exact bot_le, fun i hi => ?_⟩
    have hd := (Finset.mem_filter.mp hi).2
    have hj : j 0 = i 2 := by
      rw [← hd]
      exact Fin.ext (h.drop_apply_val_of_eq i 0 2)
    have := H (i 0) (i 1)
    rw [hj] at this
    refine le_trans (le_of_eq (congrArg v ?_)) this
    funext q
    match q with
    | 0 => rfl
    | 1 => rfl
    | 2 => rfl

variable (x : Vec Ideal S2x8192x12288 .bf16) (w : Vec Ideal S12288x2560 .bf16) (a : Vec Ideal S12288 .f32)

/-! ## The smoothing factors -/

/-- The greatest magnitude of each column of the activations. -/
def colMax : FVec Ideal S12288 .f32 :=
  multiReduction .maximumf [0, 1] S12288 (absf (k0_pay4 x)) 0xFF800000#32 reduces_S2x8192x12288_S12288 (.inl rfl) rfl

theorem colMax_le_iff (j : S12288.Idx) (u : EReal) :
    (colMax x j : EReal) ≤ u ↔ ∀ (b : Fin 2) (t : Fin 8192), mag (x (ix3 b t (j 0))) ≤ u :=
  max_axes01 (absf (k0_pay4 x)) _ _ _ j u

theorem smooth_at (v u : FVec Ideal S12288 .f32) (j : S12288.Idx) :
    divf (powf (maximumf v (broadcast S12288 (Scalar.ofBits (F := Ideal) .f32 0x3727C5AC#32))) (broadcast S12288 (Scalar.ofBits (F := Ideal) .f32 0x3F000000#32)))
      (powf (maximumf u (broadcast S12288 (Scalar.ofBits (F := Ideal) .f32 0x3727C5AC#32))) (broadcast S12288 (Scalar.ofBits (F := Ideal) .f32 0x3F000000#32))) j
      = Ideal.div (Ideal.pow (max (v j) least) (Ideal.ofBits .f32 0x3F000000#32))
        (Ideal.pow (max (u j) least) (Ideal.ofBits .f32 0x3F000000#32)) := by
  pointwise []

theorem k0_pay5_open : k0_pay5 x a = fun j =>
    divf (powf (maximumf (colMax x) (broadcast S12288 (Scalar.ofBits (F := Ideal) .f32 0x3727C5AC#32))) (broadcast S12288 (Scalar.ofBits (F := Ideal) .f32 0x3F000000#32)))
      (powf (maximumf a (broadcast S12288 (Scalar.ofBits (F := Ideal) .f32 0x3727C5AC#32))) (broadcast S12288 (Scalar.ofBits (F := Ideal) .f32 0x3F000000#32))) j := rfl

theorem k0_pay5_at (j : S12288.Idx) :
    k0_pay5 x a j = Ideal.div (Ideal.pow (max (colMax x j) least) (Ideal.ofBits .f32 0x3F000000#32))
      (Ideal.pow (max (a j) least) (Ideal.ofBits .f32 0x3F000000#32)) := by
  rw [k0_pay5_open]
  beta_reduce
  rw [smooth_at]

/-! ## The weights -/

theorem col_at (s : FVec Ideal S12288 .f32) (j : S12288x2560.Idx) :
    broadcastTo S12288x2560 (shapeCast S12288x1 s shapeCasts_S12288_S12288x1) broadcasts_S12288x1_S12288x2560 j = s (ix1 (j 0)) := by
  pointwise []

theorem k0_pay6_at (j : S12288x2560.Idx) : k0_pay6 x w a j = w j * k0_pay5 x a (ix1 (j 0)) :=
  congrArg (fun z : EReal => (w j : EReal) * z) (col_at (k0_pay5 x a) j)

theorem step_w (v : FVec Ideal S2560 .f32) (j) :
    select (cmpf .oeq v (broadcast S2560 (Scalar.ofBits (F := Ideal) .f32 0x00000000#32)))
      (broadcast S2560 (Scalar.ofBits (F := Ideal) .f32 0x3F800000#32))
      (divf v (broadcast S2560 (Scalar.ofBits (F := Ideal) .f32 0x42FE0000#32))) j
      = scaleOf (v j) := by
  unfold scaleOf
  pointwise []

theorem max_w (v : FVec Ideal S12288x2560 .f32) (j : S2560.Idx) :
    multiReduction (F := Ideal) (φ := .f32) .maximumf [0] S2560 v 0xFF800000#32 reduces_S12288x2560_S2560 (.inl rfl) rfl j
      = top fun k : Fin 12288 => v (ix2 k (j 0)) := max_axis0 v _ _ _ j

theorem k0_pay7_open : k0_pay7 x w a = fun j =>
    select (cmpf .oeq (multiReduction .maximumf [0] S2560 (absf (k0_pay6 x w a)) 0xFF800000#32 reduces_S12288x2560_S2560 (.inl rfl) rfl) (broadcast S2560 (Scalar.ofBits (F := Ideal) .f32 0x00000000#32)))
      (broadcast S2560 (Scalar.ofBits (F := Ideal) .f32 0x3F800000#32))
      (divf (multiReduction .maximumf [0] S2560 (absf (k0_pay6 x w a)) 0xFF800000#32 reduces_S12288x2560_S2560 (.inl rfl) rfl) (broadcast S2560 (Scalar.ofBits (F := Ideal) .f32 0x42FE0000#32))) j := rfl

theorem k0_pay7_at (j : S2560.Idx) : k0_pay7 x w a j = scaleOf (top fun k : Fin 12288 => mag (k0_pay6 x w a (ix2 k (j 0)))) := by
  rw [k0_pay7_open]
  beta_reduce
  rw [step_w, max_w]
  rfl

theorem code_at (p : FVec Ideal S12288x2560 .f32) (c : FVec Ideal S2560 .f32) (j) :
    fptosi 8 (minimumf (broadcast S12288x2560 (Scalar.ofBits (F := Ideal) .f32 0x42FE0000#32))
      (maximumf (broadcast S12288x2560 (Scalar.ofBits (F := Ideal) .f32 0xC2FE0000#32))
        (roundeven (divf p (broadcastTo S12288x2560 (shapeCast S1x2560 c shapeCasts_S2560_S1x2560) broadcasts_S1x2560_S12288x2560))))) j
      = codeOf (Ideal.div (p j) (c (ix1 (j 1)))) := by
  unfold codeOf
  pointwise []

theorem k0_pay8_open : k0_pay8 x w a = fun j =>
    fptosi 8 (minimumf (broadcast S12288x2560 (Scalar.ofBits (F := Ideal) .f32 0x42FE0000#32))
      (maximumf (broadcast S12288x2560 (Scalar.ofBits (F := Ideal) .f32 0xC2FE0000#32))
        (roundeven (divf (k0_pay6 x w a) (broadcastTo S12288x2560 (shapeCast S1x2560 (k0_pay7 x w a) shapeCasts_S2560_S1x2560) broadcasts_S1x2560_S12288x2560))))) j := rfl

theorem k0_pay8_at (j : S12288x2560.Idx) : k0_pay8 x w a j = codeOf (Ideal.div (k0_pay6 x w a j) (k0_pay7 x w a (ix1 (j 1)))) := by
  rw [k0_pay8_open]
  beta_reduce
  rw [code_at]

/-! ## The activations -/

theorem lane_at (s : FVec Ideal S12288 .f32) (j : S2x8192x12288.Idx) :
    broadcastTo S2x8192x12288 (shapeCast S1x1x12288 s shapeCasts_S12288_S1x1x12288) broadcasts_S1x1x12288_S2x8192x12288 j = s (ix1 (j 2)) := by
  pointwise []

theorem k0_pay9_at (j : S2x8192x12288.Idx) : k0_pay9 x a j = Ideal.div (x j) (k0_pay5 x a (ix1 (j 2))) :=
  congrArg (fun z : EReal => Ideal.div (x j) z) (lane_at (k0_pay5 x a) j)

theorem max_x (v : FVec Ideal S2x8192x12288 .f32) (j : S2x8192.Idx) :
    multiReduction (F := Ideal) (φ := .f32) .maximumf [2] S2x8192 v 0xFF800000#32 reduces_S2x8192x12288_S2x8192 (.inl rfl) rfl j
      = top fun k : Fin 12288 => v (ix3 (j 0) (j 1) k) := max_axis2 v _ _ _ j

theorem k0_pay10_open : k0_pay10 x a =
    multiReduction (F := Ideal) (φ := .f32) .maximumf [2] S2x8192 (absf (k0_pay9 x a)) 0xFF800000#32 reduces_S2x8192x12288_S2x8192 (.inl rfl) rfl := rfl

theorem k0_pay10_at (j : S2x8192.Idx) : k0_pay10 x a j = top fun k : Fin 12288 => mag (k0_pay9 x a (ix3 (j 0) (j 1) k)) := by
  rw [k0_pay10_open, max_x]
  rfl

theorem k0_pay1_at (v : FVec Ideal S2x8192 .f32) (j) : k0_pay1 v (Scalar.ofBits (F := Ideal) .f32 0x00000000#32) j = scaleOf (v j) := by
  unfold scaleOf
  pointwise [k0_pay1]

theorem token_at (s : FVec Ideal S2x8192 .f32) (j : S2x8192x12288.Idx) :
    broadcastTo S2x8192x12288 (shapeCast S2x8192x1 s shapeCasts_S2x8192_S2x8192x1) broadcasts_S2x8192x1_S2x8192x12288 j = s (ix2 (j 0) (j 1)) := by
  pointwise []

theorem k0_pay2_at (v : FVec Ideal S2x8192x12288 .f32) (g : FVec Ideal S2x8192 .f32) (z : Ideal .f32) (j : S2x8192x12288.Idx) :
    k0_pay2 v g z j = codeOf (Ideal.div (v j) (k0_pay1 g z (ix2 (j 0) (j 1)))) :=
  congrArg (fun y : EReal => codeOf (Ideal.div (v j) y)) (token_at (k0_pay1 g z) j)

/-! ## The product -/

theorem product_at (p : IVec S2x8192x12288 8) (q : IVec S12288x2560 8) (g : FVec Ideal S2x8192 .f32) (b : FVec Ideal S2560 .f32) (j : S2x8192x2560.Idx) :
    truncf (F := Ideal) .bf16 (mulf (mulf (matmul dot_S2x8192x12288_S12288x2560_S2x8192x2560_2_0_01_1_n_n none (sitofp .bf16 p) (sitofp .bf16 q) (constant S2x8192x2560 .f32 0x00000000#32))
      (broadcastTo S2x8192x2560 (shapeCast S2x8192x1 g shapeCasts_S2x8192_S2x8192x1) broadcasts_S2x8192x1_S2x8192x2560))
      (broadcastTo S2x8192x2560 (shapeCast S1x1x2560 b shapeCasts_S2560_S1x1x2560) broadcasts_S1x1x2560_S2x8192x2560)) bitsLt_bf16_f32 j
      = (∑ i : Fin 12288, intOf (p (ix3 (j 0) (j 1) i)) * intOf (q (ix2 i (j 2)))) * g (ix2 (j 0) (j 1)) * b (ix1 (j 2)) := by
  unfold intOf
  pointwise []

theorem k0_pay3_open (b : FVec Ideal S2560 .f32) (q : IVec S12288x2560 8) (v : FVec Ideal S2x8192x12288 .f32) (g : FVec Ideal S2x8192 .f32) (z : Ideal .f32) :
    k0_pay3 b q v g z = fun j => truncf (F := Ideal) .bf16 (mulf (mulf (matmul dot_S2x8192x12288_S12288x2560_S2x8192x2560_2_0_01_1_n_n none (sitofp .bf16 (k0_pay2 v g z)) (sitofp .bf16 q) (constant S2x8192x2560 .f32 0x00000000#32))
      (broadcastTo S2x8192x2560 (shapeCast S2x8192x1 (k0_pay1 g z) shapeCasts_S2x8192_S2x8192x1) broadcasts_S2x8192x1_S2x8192x2560))
      (broadcastTo S2x8192x2560 (shapeCast S1x1x2560 b shapeCasts_S2560_S1x1x2560) broadcasts_S1x1x2560_S2x8192x2560)) bitsLt_bf16_f32 j := rfl

theorem k0_pay3_at (b : FVec Ideal S2560 .f32) (q : IVec S12288x2560 8) (v : FVec Ideal S2x8192x12288 .f32) (g : FVec Ideal S2x8192 .f32) (z : Ideal .f32) (j : S2x8192x2560.Idx) :
    k0_pay3 b q v g z j = (∑ i : Fin 12288, intOf (k0_pay2 v g z (ix3 (j 0) (j 1) i)) * intOf (q (ix2 i (j 2)))) * k0_pay1 g z (ix2 (j 0) (j 1)) * b (ix1 (j 2)) := by
  rw [k0_pay3_open]
  beta_reduce
  rw [product_at]

/-! ## The values the reference's body binds, whole arrays loaded -/

theorem hz3 : (![0, 0, 0] : Fin 3 → Nat) = fun _ => 0 := funext fun q => by fin_cases q <;> rfl
theorem hz2 : (![0, 0] : Fin 2 → Nat) = fun _ => 0 := funext fun q => by fin_cases q <;> rfl
theorem hz1 : (![0] : Fin 1 → Nat) = fun _ => 0 := funext fun q => by fin_cases q <;> rfl

theorem k0_pay11_eq : k0_pay11 x w a = k0_pay7 x w a := by
  unfold k0_pay11
  rw [View.ld_unit_zero (S := S2x8192x12288) hz3 _ x, View.ld_unit_zero (S := S12288x2560) hz2 _ w, View.ld_unit_zero (S := S12288) hz1 _ a]
theorem k0_pay12_eq : k0_pay12 x w a = k0_pay8 x w a := by
  unfold k0_pay12
  rw [View.ld_unit_zero (S := S2x8192x12288) hz3 _ x, View.ld_unit_zero (S := S12288x2560) hz2 _ w, View.ld_unit_zero (S := S12288) hz1 _ a]
theorem k0_pay13_eq : k0_pay13 x w a = k0_pay9 x a := by
  unfold k0_pay13
  rw [View.ld_unit_zero (S := S2x8192x12288) hz3 _ x, View.ld_unit_zero (S := S12288) hz1 _ a]
theorem k0_pay14_eq : k0_pay14 x w a = k0_pay10 x a := by
  unfold k0_pay14
  rw [View.ld_unit_zero (S := S2x8192x12288) hz3 _ x, View.ld_unit_zero (S := S12288) hz1 _ a]

end Cert.ReferenceIdeal.Reading

end
-- ==== Proof.KernelIdealValue.Equal.lean ====
module

public import proofs.«01_k».proof.Proof.KernelIdealValue.Chain
public import proofs.«01_k».proof.Proof.KernelIdealValue.Reading

@[expose] public section

set_option maxRecDepth 16384

noncomputable section

namespace Cert.KernelIdeal.Value

open Cert.KernelIdeal Cert.KernelIdeal.Gen
open Cert.ReferenceIdeal.Reading
open Cert.ReferenceIdeal.Gen (k0_pay5 k0_pay6 k0_pay7 k0_pay8 k0_pay9 k0_pay10 k0_pay11 k0_pay12 k0_pay13 k0_pay14)
open Idealize.ShloMosaic Idealize.ShloMosaic.TcCoe Idealize.SL.Sem

/-! # The kernel's results are the reference's -/

variable (x : Vec Ideal S2x8192x12288 .bf16) (w : Vec Ideal S12288x2560 .bf16) (a : Vec Ideal S12288 .f32)

/-! ## Re-laid arrays read at an index -/

/-- The row of the matrix of tokens that holds token `t` of batch `b`. -/
def row (b : Fin 2) (t : Fin 8192) : Fin 16384 := ⟨8192 * b.val + t.val, by have := b.isLt; have := t.isLt; omega⟩

theorem token_place (b t k n : Nat) : (b * 8192 + t) * n + k = (8192 * b + t) * n + k := by
  rw [Nat.mul_comm b 8192]

theorem kX_row (b : Fin 2) (t : Fin 8192) (k : Fin 12288) : kX x (ix2 (row b t) k) = x (ix3 b t k) := by
  unfold kX row
  refine shapeCast_apply x _ _ _ ?_
  rw [Shape.rowMajor_val_three, Shape.rowMajor_val_two]
  exact token_place b.val t.val k.val 12288

theorem split_row (i : Fin 16384) : ∃ (b : Fin 2) (t : Fin 8192), i = row b t :=
  ⟨⟨i.val / 8192, by have := i.isLt; omega⟩, ⟨i.val % 8192, by omega⟩, Fin.ext (by show i.val = 8192 * (i.val / 8192) + i.val % 8192; omega)⟩

theorem relay_y (v : Vec Ideal S16384x2560 .bf16) (j : S2x8192x2560.Idx) :
    shapeCast S2x8192x2560 v shapeCasts_S16384x2560_S2x8192x2560 j = v (ix2 (row (j 0) (j 1)) (j 2)) := by
  unfold row
  refine shapeCast_apply v _ _ _ ?_
  rw [Shape.rowMajor_val_three, Shape.rowMajor_val_two]
  exact (token_place (j 0).val (j 1).val (j 2).val 2560).symm

theorem relay_xc (v : Vec Ideal S16384x12288 .i8) (j : S2x8192x12288.Idx) :
    shapeCast S2x8192x12288 v shapeCasts_S16384x12288_S2x8192x12288 j = v (ix2 (row (j 0) (j 1)) (j 2)) := by
  unfold row
  refine shapeCast_apply v _ _ _ ?_
  rw [Shape.rowMajor_val_three, Shape.rowMajor_val_two]
  exact (token_place (j 0).val (j 1).val (j 2).val 12288).symm

theorem relay_xs (v : Vec Ideal S16384x1 .f32) (j : S2x8192.Idx) :
    shapeCast S2x8192 v shapeCasts_S16384x1_S2x8192 j = v (ix2 (row (j 0) (j 1)) 0) := by
  unfold row
  refine shapeCast_apply v _ _ _ ?_
  rw [Shape.rowMajor_val_two, Shape.rowMajor_val_two]
  show (8192 * (j 0).val + (j 1).val) * 1 + 0 = (j 0).val * 8192 + (j 1).val
  omega

theorem relay_s (v : Vec Ideal S1x12288 .f32) (j : S12288.Idx) :
    shapeCast S12288 v shapeCasts_S1x12288_S12288 j = v (ix2 0 (j 0)) := by
  pointwise []

theorem relay_ws (v : Vec Ideal S1x2560 .f32) (j : S2560.Idx) :
    shapeCast S2560 v shapeCasts_S1x2560_S2560 j = v (ix2 0 (j 0)) := by
  pointwise []

theorem relay_a (k : Fin 12288) : shapeCast S1x12288 a shapeCasts_S12288_S1x12288 (ix2 0 k) = a (ix1 k) := by
  pointwise []

theorem relay_c (v : Vec Ideal S1x12288 .f32) (k : Fin 12288) :
    shapeCast S12288x1 v shapeCasts_S1x12288_S12288x1 (ix2 k 0) = v (ix2 0 k) := by
  pointwise []

/-! ## The smoothing factors -/

theorem colMax_eq (k : Fin 12288) : (colMax x (ix1 k) : EReal) = top fun i : Fin 16384 => mag (kX x (ix2 i k)) := by
  refine eq_top_of_le_iff _ _ fun u => (colMax_le_iff x (ix1 k) u).trans ⟨fun H i => ?_, fun H b t => ?_⟩
  · obtain ⟨b, t, rfl⟩ := split_row i
    rw [kX_row]
    exact H b t
  · have := H (row b t)
    rw [kX_row] at this
    exact this

theorem least_le_pos (v : EReal) : 0 < max v least := lt_max_of_lt_right least_pos

theorem kS_at (k : Fin 12288) : kS x a (ix2 0 k)
    = Ideal.div (Ideal.sqrt (max (top fun i : Fin 16384 => mag (kX x (ix2 i k))) least)) (Ideal.sqrt (max (a (ix1 k)) least)) :=
  congrArg (fun z : EReal => Ideal.div (Ideal.sqrt (max (top fun i : Fin 16384 => mag (kX x (ix2 i k))) least)) (Ideal.sqrt (max z least)))
    (relay_a a k)

theorem factor_eq (k : Fin 12288) : kS x a (ix2 0 k) = k0_pay5 x a (ix1 k) := by
  rw [kS_at, Cert.ReferenceIdeal.Reading.k0_pay5_at, colMax_eq, sqrt_eq_pow _ (least_le_pos _), sqrt_eq_pow _ (least_le_pos _)]

theorem factor_ne_zero (ha : ∀ j, (a j : EReal) < ⊤) (k : Fin 12288) : k0_pay5 x a (ix1 k) ≠ (0 : EReal) := by
  rw [← factor_eq, kS_at]
  refine div_ne_zero_of_pos _ _ (sqrt_pos _ (least_le_pos _)) (sqrt_pos _ (least_le_pos _)) (sqrt_lt_top _ ?_)
  refine max_lt (ha _) ?_
  obtain ⟨r, -, e⟩ := least_real
  rw [e]
  exact EReal.coe_lt_top r

theorem result_s : shapeCast S12288 (kS x a) shapeCasts_S1x12288_S12288 = k0_pay5 x a := by
  funext j
  rw [relay_s]
  refine (factor_eq x a (j 0)).trans (congrArg (k0_pay5 x a) ?_)
  funext q
  match q with
  | 0 => rfl

/-! ## The weights -/

theorem kC_at (k : Fin 12288) : kC x a (ix2 k 0) = k0_pay5 x a (ix1 k) :=
  (relay_c (kS x a) k).trans (factor_eq x a k)

theorem kWS_at (n : Fin 2560) : kWS x w a (ix2 0 n) = k0_pay7 x w a (ix1 n) := by
  rw [Cert.ReferenceIdeal.Reading.k0_pay7_at]
  refine congrArg (fun f : Fin 12288 → EReal => scaleOf (top f)) (funext fun k => ?_)
  rw [Cert.ReferenceIdeal.Reading.k0_pay6_at]
  exact congrArg (fun z : EReal => mag (w (ix2 k n) * z)) (kC_at x a k)

theorem result_ws : shapeCast S2560 (kWS x w a) shapeCasts_S1x2560_S2560 = k0_pay7 x w a := by
  funext j
  rw [relay_ws]
  refine (kWS_at x w a (j 0)).trans (congrArg (k0_pay7 x w a) ?_)
  funext q
  match q with
  | 0 => rfl

theorem kWC_at (j : S12288x2560.Idx) : kWC x w a j = codeOf (w j * kC x a (ix2 (j 0) 0) * Ideal.div 1 (kWS x w a (ix2 0 (j 1)))) := rfl

theorem result_wc : kWC x w a = k0_pay8 x w a := by
  funext j
  rw [Cert.ReferenceIdeal.Reading.k0_pay8_at, kWC_at]
  refine congrArg codeOf ?_
  have e : (k0_pay6 x w a j : EReal) = w j * kC x a (ix2 (j 0) 0) :=
    (Cert.ReferenceIdeal.Reading.k0_pay6_at x w a j).trans (congrArg (fun z : EReal => (w j : EReal) * z) (kC_at x a (j 0)).symm)
  have f : (k0_pay7 x w a (ix1 (j 1)) : EReal) = kWS x w a (ix2 0 (j 1)) := (kWS_at x w a (j 1)).symm
  rw [e, f]
  exact mul_inv_eq_div _ _ (scaleOf_ne_zero _)

/-! ## The activations -/

/-- A token's entry, smoothed: the kernel multiplies by the inverse factor, the reference divides by the factor. -/
theorem smoothed_eq (ha : ∀ j, (a j : EReal) < ⊤) (b : Fin 2) (t : Fin 8192) (k : Fin 12288) :
    (kX x (ix2 (row b t) k) * kR x a (ix2 0 k) : EReal) = k0_pay9 x a (ix3 b t k) := by
  rw [Cert.ReferenceIdeal.Reading.k0_pay9_at, kX_row]
  have e : (kR x a (ix2 0 k) : EReal) = Ideal.div 1 (k0_pay5 x a (ix1 k)) :=
    congrArg (fun z : EReal => Ideal.div 1 z) (factor_eq x a k)
  rw [e]
  exact mul_inv_eq_div _ _ (factor_ne_zero x a ha k)

/-- The reference's step of a token. -/
abbrev rXS : FVec Ideal S2x8192 .f32 := Cert.ReferenceIdeal.Gen.k0_pay1 (k0_pay10 x a) (Scalar.ofBits (F := Ideal) .f32 0x00000000#32)
/-- The reference's codes of a token. -/
abbrev rXC : IVec S2x8192x12288 8 := Cert.ReferenceIdeal.Gen.k0_pay2 (k0_pay9 x a) (k0_pay10 x a) (Scalar.ofBits (F := Ideal) .f32 0x00000000#32)

theorem kXS_at (ha : ∀ j, (a j : EReal) < ⊤) (b : Fin 2) (t : Fin 8192) : kXS x a (ix2 (row b t) 0) = rXS x a (ix2 b t) := by
  refine Eq.trans ?_ (Cert.ReferenceIdeal.Reading.k0_pay1_at _ _).symm
  rw [Cert.ReferenceIdeal.Reading.k0_pay10_at]
  refine congrArg (fun f : Fin 12288 → EReal => scaleOf (top f)) (funext fun k => ?_)
  exact congrArg mag (smoothed_eq x a ha b t k)

theorem result_xs (ha : ∀ j, (a j : EReal) < ⊤) : shapeCast S2x8192 (kXS x a) shapeCasts_S16384x1_S2x8192 = rXS x a := by
  funext j
  rw [relay_xs]
  refine (kXS_at x a ha (j 0) (j 1)).trans (congrArg (rXS x a) ?_)
  funext q
  match q with
  | 0 => rfl
  | 1 => rfl

theorem kXC_open (i : Fin 16384) (k : Fin 12288) :
    kXC x a (ix2 i k) = codeOf (kX x (ix2 i k) * kR x a (ix2 0 k) * Ideal.div 1 (kXS x a (ix2 i 0))) := rfl

theorem kXC_at (ha : ∀ j, (a j : EReal) < ⊤) (b : Fin 2) (t : Fin 8192) (k : Fin 12288) :
    kXC x a (ix2 (row b t) k) = rXC x a (ix3 b t k) := by
  refine (kXC_open x a _ _).trans (Eq.trans ?_ (Cert.ReferenceIdeal.Reading.k0_pay2_at _ _ _ _).symm)
  refine congrArg codeOf ?_
  have e := smoothed_eq x a ha b t k
  have f : (rXS x a (ix2 b t) : EReal) = kXS x a (ix2 (row b t) 0) := (kXS_at x a ha b t).symm
  rw [e]
  refine (mul_inv_eq_div _ _ (scaleOf_ne_zero _)).trans ?_
  exact congrArg (fun z : EReal => Ideal.div (k0_pay9 x a (ix3 b t k)) z) f.symm

theorem result_xc (ha : ∀ j, (a j : EReal) < ⊤) :
    shapeCast S2x8192x12288 (kXC x a) shapeCasts_S16384x12288_S2x8192x12288 = rXC x a := by
  funext j
  rw [relay_xc]
  refine (kXC_at x a ha (j 0) (j 1) (j 2)).trans (congrArg (rXC x a) ?_)
  funext q
  match q with
  | 0 => rfl
  | 1 => rfl
  | 2 => rfl

/-! ## The product -/

theorem kY_open (i : Fin 16384) (n : Fin 2560) :
    kY x w a (ix2 i n) = (∑ k : Fin 12288, intOf (kXC x a (ix2 i k)) * intOf (kWC x w a (ix2 k n))) * kXS x a (ix2 i 0) * kWS x w a (ix2 0 n) := rfl

/-- The reference's result. -/
abbrev rY : FVec Ideal S2x8192x2560 .bf16 :=
  Cert.ReferenceIdeal.Gen.k0_pay3 (k0_pay7 x w a) (k0_pay8 x w a) (k0_pay9 x a) (k0_pay10 x a) (Scalar.ofBits (F := Ideal) .f32 0x00000000#32)

theorem result_y (ha : ∀ j, (a j : EReal) < ⊤) : shapeCast S2x8192x2560 (kY x w a) shapeCasts_S16384x2560_S2x8192x2560 = rY x w a := by
  funext j
  idx_vars j
  rw [relay_y]
  refine (kY_open x w a _ _).trans (Eq.trans ?_ (Cert.ReferenceIdeal.Reading.k0_pay3_at _ _ _ _ _ _).symm)
  refine congr (congrArg HMul.hMul (congr (congrArg HMul.hMul (Finset.sum_congr rfl fun k _ => ?_)) ?_)) ?_
  · rw [result_wc]
    exact congrArg (fun z : BitVec 8 => intOf z * intOf (k0_pay8 x w a (ix2 k _))) (kXC_at x a ha _ _ k)
  · exact kXS_at x a ha _ _
  · exact kWS_at x w a _

/-! ## Whole results, as the reference's run names them -/

variable (ha : ∀ j, (a j : EReal) < ⊤)

include ha in
theorem same_y : shapeCast S2x8192x2560 (kY x w a) shapeCasts_S16384x2560_S2x8192x2560 = Cert.ReferenceIdeal.Value.G3 x w a := by
  unfold Cert.ReferenceIdeal.Value.G3
  rw [k0_pay11_eq, k0_pay12_eq, k0_pay13_eq, k0_pay14_eq]
  exact result_y x w a ha

theorem same_s : shapeCast S12288 (kS x a) shapeCasts_S1x12288_S12288 = Cert.ReferenceIdeal.Value.G4 x w a := result_s x a

theorem same_wc : kWC x w a = Cert.ReferenceIdeal.Value.G5 x w a := by
  unfold Cert.ReferenceIdeal.Value.G5
  rw [k0_pay12_eq]
  exact result_wc x w a

theorem same_ws : shapeCast S2560 (kWS x w a) shapeCasts_S1x2560_S2560 = Cert.ReferenceIdeal.Value.G6 x w a := by
  unfold Cert.ReferenceIdeal.Value.G6
  rw [k0_pay11_eq]
  exact result_ws x w a

include ha in
theorem same_xc : shapeCast S2x8192x12288 (kXC x a) shapeCasts_S16384x12288_S2x8192x12288 = Cert.ReferenceIdeal.Value.G7 x w a := by
  unfold Cert.ReferenceIdeal.Value.G7
  rw [k0_pay13_eq, k0_pay14_eq]
  exact result_xc x a ha

include ha in
theorem same_xs : shapeCast S2x8192 (kXS x a) shapeCasts_S16384x1_S2x8192 = Cert.ReferenceIdeal.Value.G8 x w a := by
  unfold Cert.ReferenceIdeal.Value.G8
  rw [k0_pay14_eq]
  exact result_xs x a ha

end Cert.KernelIdeal.Value

end
-- ==== Proof.KernelIdealValue.Algebraic.lean ====
module

public import proofs.«01_k».proof.Defs
public import proofs.«01_k».proof.Proof.Gen.Pre_below_infinity
public import proofs.«01_k».proof.Proof.KernelIdealValue.Run
public import proofs.«01_k».proof.Proof.KernelIdealValue.Equal

@[expose] public section

set_option maxRecDepth 16384

noncomputable section

namespace Cert.KernelIdeal.Value

open Cert.KernelIdeal Cert.KernelIdeal.Gen
open Idealize.ShloMosaic Idealize.ShloMosaic.TcCoe Idealize.SL.Sem

/-! # The kernel and the reference end with equal results -/

/-- What the precondition says of the weights' column maxima, read at a column. -/
theorem below_of_pre [Cert.Pre_below_infinity.Facts] (x : Vec Ideal S2x8192x12288 .bf16) (w : Vec Ideal S12288x2560 .bf16) (a : Vec Ideal S12288 .f32)
    (h : Cert.Pre_below_infinity.fn (F := Ideal) x w a = fun _ => 1#1) (j : S12288.Idx) : (a j : EReal) < ⊤ := by
  have hj : BitVec.ofBool (decide ((a j : EReal) < Ideal.ofBits .f32 0x7F800000#32)) = 1#1 := congrFun h j
  have ht : Ideal.ofBits .f32 0x7F800000#32 = (⊤ : EReal) := by
    simp [Ideal.ofBits, Ideal.ieee]
  rw [ht] at hj
  by_contra hn
  rw [decide_eq_false hn] at hj
  exact absurd hj (by decide)

theorem algebraic : Cert.algebraic_KernelIdeal_ReferenceIdeal_pre_below_infinity (hKernelIdeal := Cert.KernelIdeal.Gen.facts)
    (hReferenceIdeal := Cert.ReferenceIdeal.Gen.facts) (hPre_below_infinity := Cert.Pre_below_infinity.Gen.facts) := by
  intro m g m' g' hpre hargs
  have ha : ∀ c j, (argA m c j : EReal) < ⊤ := fun c j => below_of_pre (argX m c) (argW m c) (argA m c) (hpre c) j
  refine ⟨fun c => Cert.ReferenceIdeal.Value.G3 (argX m c) (argW m c) (argA m c), fun c => Cert.ReferenceIdeal.Value.G4 (argX m c) (argW m c) (argA m c),
    fun c => Cert.ReferenceIdeal.Value.G5 (argX m c) (argW m c) (argA m c), fun c => Cert.ReferenceIdeal.Value.G6 (argX m c) (argW m c) (argA m c),
    fun c => Cert.ReferenceIdeal.Value.G7 (argX m c) (argW m c) (argA m c), fun c => Cert.ReferenceIdeal.Value.G8 (argX m c) (argW m c) (argA m c), ?_, ?_⟩
  · refine (θ_run Cert.KernelIdeal.defs _ _).mono (fun r h c => ?_) (Cert.KernelIdeal.Run.run_values m g)
    obtain ⟨h0, h1, h2, h3, h4, h5, hk⟩ := h c
    exact ⟨h0.trans ((W7_v7 m g c).trans (same_y _ _ _ (ha c))), h1.trans ((W7_v8 m g c).trans (same_s _ (argW m c) _)),
      h2.trans ((W7_v4_0 m g c).trans (same_wc _ _ _)), h3.trans ((W7_v9 m g c).trans (same_ws _ _ _)),
      h4.trans ((W7_v10 m g c).trans (same_xc _ (argW m c) _ (ha c))), h5.trans ((W7_v11 m g c).trans (same_xs _ (argW m c) _ (ha c))), hk⟩
  · refine (θ_run Cert.ReferenceIdeal.defs _ _).mono (fun r h c => ?_) (Cert.ReferenceIdeal.Value.run m' g')
    obtain ⟨e0, e1, e2⟩ := hargs c
    have := h c
    rw [e0, e1, e2] at this
    rw [e0, e1, e2]
    exact this

end Cert.KernelIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_below_infinity
public import proofs.«01_k».proof.Proof.Gen.ReferenceIdeal.Value
public import proofs.«01_k».proof.Proof.KernelRun.Launch
public import proofs.«01_k».proof.Proof.KernelIdealRun.Launch
public import proofs.«01_k».proof.Proof.KernelIdealValue.Algebraic

@[expose] public section

theorem Cert.Proof.claim : Cert.Claim :=
  ⟨Cert.Kernel.Gen.facts, Cert.KernelIdeal.Gen.facts, Cert.ReferenceIdeal.Gen.facts, Cert.Pre_below_infinity.Gen.facts,
    fun m ρ _ => Cert.Kernel.Run.frame m ρ, fun m ρ _ => Cert.KernelIdeal.Run.frame m ρ,
    fun m ρ _ => Cert.KernelIdeal.Run.frame m ρ,
    fun m ρ _ => Cert.ReferenceIdeal.Gen.frame m ρ, fun m ρ _ => Cert.ReferenceIdeal.Gen.frame m ρ, trivial,
    Cert.KernelIdeal.Value.algebraic⟩

end
